-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3DB8AA3B#32 (((16 * (Real.log 2))⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![8192, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![8192, 256]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 256]⟩ ⟨2, ![8192, 256]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![8192, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2048x256 : Shape := ⟨2, ![2048, 256]⟩
abbrev S_ : Shape := ⟨0, ![]⟩

class Facts : Prop where
  bitsLt_bf16_f32 : FTy.bits .bf16 < FTy.bits .f32
  bcast_S_S2048x256 : S_.BroadcastsInDim S2048x256 (![] : Fin 0 → Fin S2048x256.rank)

variable [Facts]

def fn {F : FTy → Type} [FloatOps F] (main_arg0 : FVec F S2048x256 .bf16) (main_arg1 : FVec F S2048x256 .bf16) (main_arg2 : FVec F S2048x256 .bf16) : IVec S2048x256 1 :=
  let main_v0 : FVec F S2048x256 .f32 := (extf .f32 · bitsLt_bf16_f32) main_arg0
  let main_v1 : FVec F S2048x256 .f32 := (extf .f32 · bitsLt_bf16_f32) main_arg1
  let main_v2 : FVec F S2048x256 .f32 := Host.absf main_v0
  let main_cst : FVec F S_ .f32 := constant S_ .f32 0x7F800000#32
  let main_v3 : FVec F S2048x256 .f32 := broadcastInDim S2048x256 ![] bcast_S_S2048x256 main_cst
  let main_v4 : IVec S2048x256 1 := cmpf .olt main_v2 main_v3
  let main_v5 : FVec F S2048x256 .f32 := Host.absf main_v1
  let main_cst_0 : FVec F S_ .f32 := constant S_ .f32 0x7F800000#32
  let main_v6 : FVec F S2048x256 .f32 := broadcastInDim S2048x256 ![] bcast_S_S2048x256 main_cst_0
  let main_v7 : IVec S2048x256 1 := cmpf .olt main_v5 main_v6
  let main_v8 : IVec S2048x256 1 := andi main_v4 main_v7
  main_v8
-- ==== Pre_finite_scores_ReferenceIdeal.lean ====
abbrev S8192x256 : Shape := ⟨2, ![8192, 256]⟩
abbrev S_ : Shape := ⟨0, ![]⟩

class Facts : Prop where
  bitsLt_bf16_f32 : FTy.bits .bf16 < FTy.bits .f32
  bcast_S_S8192x256 : S_.BroadcastsInDim S8192x256 (![] : Fin 0 → Fin S8192x256.rank)

variable [Facts]

def fn {F : FTy → Type} [FloatOps F] (main_arg0 : FVec F S8192x256 .bf16) (main_arg1 : FVec F S8192x256 .bf16) (main_arg2 : FVec F S8192x256 .bf16) : IVec S8192x256 1 :=
  let main_v0 : FVec F S8192x256 .f32 := (extf .f32 · bitsLt_bf16_f32) main_arg0
  let main_v1 : FVec F S8192x256 .f32 := (extf .f32 · bitsLt_bf16_f32) main_arg1
  let main_v2 : FVec F S8192x256 .f32 := Host.absf main_v0
  let main_cst : FVec F S_ .f32 := constant S_ .f32 0x7F800000#32
  let main_v3 : FVec F S8192x256 .f32 := broadcastInDim S8192x256 ![] bcast_S_S8192x256 main_cst
  let main_v4 : IVec S8192x256 1 := cmpf .olt main_v2 main_v3
  let main_v5 : FVec F S8192x256 .f32 := Host.absf main_v1
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_v8 : IVec S8192x256 1 := andi main_v4 main_v7
  main_v8
-- ==== Kernel.lean ====
abbrev S2048x256 : Shape := ⟨2, ![2048, 256]⟩
abbrev S4x1024x256 : Shape := ⟨3, ![4, 1024, 256]⟩
abbrev S8 : Shape := ⟨1, ![8]⟩
abbrev S_ : Shape := ⟨0, ![]⟩
abbrev S1024x256 : Shape := ⟨2, ![1024, 256]⟩
abbrev S1x1024x256 : Shape := ⟨3, ![1, 1024, 256]⟩
abbrev S1 : Shape := ⟨1, ![1]⟩
abbrev S1x512x256 : Shape := ⟨3, ![1, 512, 256]⟩
abbrev S512x256 : Shape := ⟨2, ![512, 256]⟩
abbrev S1024x1 : Shape := ⟨2, ![1024, 1]⟩
abbrev S1024x512 : Shape := ⟨2, ![1024, 512]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x256, .bf16⟩
  | .hbm, ⟨1, _⟩ => ⟨S2048x256, .bf16⟩
  | .hbm, ⟨2, _⟩ => ⟨S2048x256, .bf16⟩
  | .hbm, ⟨3, _⟩ => ⟨S2048x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .f32⟩
  | .local _ .vmem, ⟨4, _⟩ => ⟨S4x1024x256, .bf16⟩
  | .local _ .vmem, ⟨5, _⟩ => ⟨S4x1024x256, .bf16⟩
  | .local _ .vmem, ⟨6, _⟩ => ⟨S4x1024x256, .bf16⟩
  | .local _ .vmem, ⟨7, _⟩ => ⟨S4x1024x256, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_45 : BitVec 32 := 1#32
  let v54 : BitVec 32 := Scalar.muli v24 c1_i32_45
  let v55 : BitVec 32 := Scalar.addi c0_i32_46 v54
  v55.toNat
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_55 : BitVec 32 := 1#32
  let v64 : BitVec 32 := Scalar.muli v24 c1_i32_55
  let v65 : BitVec 32 := Scalar.addi c0_i32_56 v64
  v65.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_65 : BitVec 32 := 1#32
  let v74 : BitVec 32 := Scalar.muli v13 c1_i32_65
  let v75 : BitVec 32 := Scalar.addi c0_i32_66 v74
  v75.toNat
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_75 : BitVec 32 := 1#32
  let v84 : BitVec 32 := Scalar.muli v13 c1_i32_75
  let v85 : BitVec 32 := Scalar.addi c0_i32_76 v84
  v85.toNat
def k0_dev7 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_84 : BitVec 32 := 1#32
  let v94 : BitVec 32 := Scalar.muli v24 c1_i32_84
  let v95 : BitVec 32 := Scalar.addi c0_i32_85 v94
  v95.toNat
def k0_dev8 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_93 : BitVec 32 := 1#32
  let v104 : BitVec 32 := Scalar.muli v24 c1_i32_93
  let v105 : BitVec 32 := Scalar.addi c0_i32_94 v104
  v105.toNat
def k0_dev9 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_103 : BitVec 32 := 1#32
  let v114 : BitVec 32 := Scalar.muli v13 c1_i32_103
  let v115 : BitVec 32 := Scalar.addi c0_i32_104 v114
  v115.toNat
def k0_dev10 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_113 : BitVec 32 := 1#32
  let v124 : BitVec 32 := Scalar.muli v13 c1_i32_113
  let v125 : BitVec 32 := Scalar.addi c0_i32_114 v124
  v125.toNat
def k0_dev11 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_191 : BitVec 32 := 1#32
  let v242 : BitVec 32 := Scalar.muli v24 c1_i32_191
  let v243 : BitVec 32 := Scalar.addi c0_i32_192 v242
  v243.toNat
def k0_dev12 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_211 : BitVec 32 := 1#32
  let v260 : BitVec 32 := Scalar.muli v24 c1_i32_211
  let v261 : BitVec 32 := Scalar.addi c0_i32_212 v260
  v261.toNat
def k0_dev13 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_244 : BitVec 32 := 1#32
  let v302 : BitVec 32 := Scalar.muli v13 c1_i32_244
  let v303 : BitVec 32 := Scalar.addi c0_i32_245 v302
  v303.toNat
def k0_dev14 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_264 : BitVec 32 := 1#32
  let v320 : BitVec 32 := Scalar.muli v13 c1_i32_264
  let v321 : BitVec 32 := Scalar.addi c0_i32_265 v320
  v321.toNat
def k0_dev15 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_297 : BitVec 32 := 1#32
  let v362 : BitVec 32 := Scalar.muli v24 c1_i32_297
  let v363 : BitVec 32 := Scalar.addi c0_i32_298 v362
  v363.toNat
def k0_dev16 (d0 : Dev nD) : Nat :=
  let c0_i32_318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_317 : BitVec 32 := 1#32
  let v380 : BitVec 32 := Scalar.muli v24 c1_i32_317
  let v381 : BitVec 32 := Scalar.addi c0_i32_318 v380
  v381.toNat
def k0_dev17 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_351 : BitVec 32 := 1#32
  let v422 : BitVec 32 := Scalar.muli v13 c1_i32_351
  let v423 : BitVec 32 := Scalar.addi c0_i32_352 v422
  v423.toNat
def k0_dev18 (d0 : Dev nD) : Nat :=
  let c0_i32_372 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_371 : BitVec 32 := 1#32
  let v440 : BitVec 32 := Scalar.muli v13 c1_i32_371
  let v441 : BitVec 32 := Scalar.addi c0_i32_372 v440
  v441.toNat
def k0_dev19 (d0 : Dev nD) : Nat :=
  let c0_i32_405 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_404 : BitVec 32 := 1#32
  let v482 : BitVec 32 := Scalar.muli v24 c1_i32_404
  let v483 : BitVec 32 := Scalar.addi c0_i32_405 v482
  v483.toNat
def k0_dev20 (d0 : Dev nD) : Nat :=
  let c0_i32_425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_424 : BitVec 32 := 1#32
  let v500 : BitVec 32 := Scalar.muli v24 c1_i32_424
  let v501 : BitVec 32 := Scalar.addi c0_i32_425 v500
  v501.toNat
def k0_dev21 (d0 : Dev nD) : Nat :=
  let c0_i32_458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_457 : BitVec 32 := 1#32
  let v542 : BitVec 32 := Scalar.muli v13 c1_i32_457
  let v543 : BitVec 32 := Scalar.addi c0_i32_458 v542
  v543.toNat
def k0_dev22 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_477 : BitVec 32 := 1#32
  let v560 : BitVec 32 := Scalar.muli v13 c1_i32_477
  let v561 : BitVec 32 := Scalar.addi c0_i32_478 v560
  v561.toNat
def k0_dev23 (d0 : Dev nD) : Nat :=
  let c0_i32_511 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_510 : BitVec 32 := 1#32
  let v602 : BitVec 32 := Scalar.muli v24 c1_i32_510
  let v603 : BitVec 32 := Scalar.addi c0_i32_511 v602
  v603.toNat
def k0_dev24 (d0 : Dev nD) : Nat :=
  let c0_i32_531 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_530 : BitVec 32 := 1#32
  let v620 : BitVec 32 := Scalar.muli v24 c1_i32_530
  let v621 : BitVec 32 := Scalar.addi c0_i32_531 v620
  v621.toNat
def k0_dev25 (d0 : Dev nD) : Nat :=
  let c0_i32_565 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_564 : BitVec 32 := 1#32
  let v662 : BitVec 32 := Scalar.muli v13 c1_i32_564
  let v663 : BitVec 32 := Scalar.addi c0_i32_565 v662
  v663.toNat
def k0_dev26 (d0 : Dev nD) : Nat :=
  let c0_i32_585 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_584 : BitVec 32 := 1#32
  let v680 : BitVec 32 := Scalar.muli v13 c1_i32_584
  let v681 : BitVec 32 := Scalar.addi c0_i32_585 v680
  v681.toNat
abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale" => some (((16 * (Real.log 2))⁻¹ : ℝ) : EReal)
  | _ => none
-- ==== ReferenceIdeal.lean ====
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S256x8192, .f32⟩
  | .hbm, ⟨7, _⟩ => ⟨S8192x8192, .f32⟩
  | .hbm, ⟨8, _⟩ => ⟨S_, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Program.lean ====
/-
# The kernel as one loop over its transfers

The kernel keeps two pairs of buffers of four slots: the pair of keys and values that travels to the right round the
ring, and the pair that travels to the left. A slot of a buffer moves in two chunks. Numbering the windows (slot, chunk,
buffer) in the order the kernel touches them, window `n` lies in slot `n / 8`, chunk `n / 4 % 2`, buffer `n % 4`, and the
transfer out of window `n` lands in window `n + 8` of the neighbour. The kernel is then: announce, fill the windows of
slot 0, wait for both neighbours, and walk over the windows — receive window `n` (from slot 1 on), send it on (up to slot
2) —, taking in the keys and values of windows `2 m` and `2 m + 1` at step `m`; then store the quotient and wait for the
sends. This module writes that program down and proves that the printed kernel is it.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.Ring

open Cert.KernelIdeal Cert.KernelIdeal.Gen

open Idealize.ShloMosaic
open Idealize.ShloMosaic.TcCoe
open Idealize.SL.Sem

variable {F : FTy → Type} [FloatOps F] [Named F]

/-! ## The windows -/

abbrev qM : Memref sig .tc .vmem S2048x256 .bf16 := Memref.whole cc0_stg0_0
abbrev kM : Memref sig .tc .vmem S2048x256 .bf16 := Memref.whole cc0_stg1_0
abbrev vM : Memref sig .tc .vmem S2048x256 .bf16 := Memref.whole cc0_stg2_0
abbrev oM : Memref sig .tc .vmem S2048x256 .f32 := Memref.whole cc0_stg3_0

/-- The four travelling buffers: keys and values going right, keys and values going left. -/
abbrev scr : Fin 4 → Ref sig .tc := fun | 0 => cc0_scratch0 | 1 => cc0_scratch1 | 2 => cc0_scratch2 | 3 => cc0_scratch3
abbrev buf : Fin 4 → Memref sig .tc .vmem S4x1024x256 .bf16 :=
  fun | 0 => Memref.whole cc0_scratch0 | 1 => Memref.whole cc0_scratch1 | 2 => Memref.whole cc0_scratch2 | 3 => Memref.whole cc0_scratch3

theorem buf_whole : ∀ b, (buf b).IsWhole :=
  fun | 0 => Memref.isWhole_whole _ | 1 => Memref.isWhole_whole _ | 2 => Memref.isWhole_whole _ | 3 => Memref.isWhole_whole _

/-- The buffer window `n` lies in. -/
abbrev bOf (n : ℕ) : Fin 4 := ⟨n % 4, Nat.mod_lt _ (by decide)⟩

theorem inb (n : ℕ) : ∀ a, (![n / 8 % 4, n / 4 % 2 * 512, 0] : Fin 3 → Nat) a + S1x512x256.size a ≤ S4x1024x256.size a := by
  have h1 := Nat.mod_lt (n / 8) (show 4 > 0 by decide)
  have h2 := Nat.mod_lt (n / 4) (show 2 > 0 by decide)
  intro a
  fin_cases a
  · show n / 8 % 4 + 1 ≤ 4; omega
  · show n / 4 % 2 * 512 + 512 ≤ 1024; omega
  · exact Nat.le_refl 256

/-- Window `n`'s box in its buffer. -/
abbrev winR (n : ℕ) : Rect S4x1024x256 := Rect.unit (s := S4x1024x256) ![n / 8 % 4, n / 4 % 2 * 512, 0] S1x512x256.size (inb n)

abbrev win (n : ℕ) : Memref sig .tc .vmem S512x256 .bf16 :=
  ((buf (bOf n)).slice (winR n) (fun _ => rfl)).squeeze S512x256 squeezes_S1x512x256_S512x256

theorem words (n : ℕ) : (winR n).WholeWords (EltTy.packing .bf16) := by
  have h1 := Nat.mod_lt (n / 8) (show 4 > 0 by decide)
  have h2 := Nat.mod_lt (n / 4) (show 2 > 0 by decide)
  have key : ∀ (s : Fin 4) (j : Fin 2) (h : ∀ a, (![s.val, j.val * 512, 0] : Fin 3 → Nat) a + S1x512x256.size a ≤ S4x1024x256.size a),
      (Rect.unit (s := S4x1024x256) ![s.val, j.val * 512, 0] S1x512x256.size h).WholeWords (EltTy.packing .bf16) := by decide
  exact key ⟨n / 8 % 4, h1⟩ ⟨n / 4 % 2, h2⟩ (inb n)

theorem win_words (n : ℕ) : (win n).view.WordExact := (((buf_whole (bOf n)).wordExact_slice rfl _ (words n))).reshape _ _

/-- The semaphore the transfer out of window `n` credits at its own end, and the one the transfer into window `n` credits. -/
abbrev sendS (n : ℕ) : DmaSem sig := ⟨4 + 16 * (n % 4) + n / 4 % 8, by show _ < 68; omega⟩
abbrev recvS (n : ℕ) : DmaSem sig := ⟨12 + 16 * (n % 4) + n / 4 % 8, by show _ < 68; omega⟩

/-- The neighbour a device sends window `n` to: the right one out of the first two buffers, the left one out of the others. -/
abbrev tgt (n : ℕ) (d : Dev nD) : Dev nD :=
  match bOf n with
  | 0 => ⟨k0_dev3 d, k0_dev3_lt d⟩ | 1 => ⟨k0_dev4 d, k0_dev4_lt d⟩ | 2 => ⟨k0_dev5 d, k0_dev5_lt d⟩ | 3 => ⟨k0_dev6 d, k0_dev6_lt d⟩

theorem win_unscratch (n : ℕ) : (win n).view.ref.isScScratch = false := by
  show (buf (bOf n)).view.ref.isScScratch = false
  generalize bOf n = b
  fin_cases b <;> rfl

abbrev PR (F : FTy → Type) [FloatOps F] (α : Type) : Type 1 := Prog (TpuEff nD τ sig (Elt F) Λ₀ .tc) α

/-! ## The program -/

/-- Window `n` sent on to window `n + 8` of the neighbour. -/
def sendOp (d : Dev nD) (n : ℕ) : PR F PUnit :=
  Prog.lift (.enqueueDma (win n) (.remote (Dev.tc (tgt n d)) (win (n + 8)) (.dma (sendS n)) (win_unscratch (n + 8))) (.dma (recvS (n + 8)))
    (win_words n) (win_words (n + 8)) ⟨⟨rfl, Or.inl rfl⟩, trivial⟩)

/-- The wait for what lands in window `n`. -/
def recvOp (n : ℕ) : PR F PUnit := Prog.lift (.waitDma2 (recvS n) (win n) (win n) (win_words n) (win_words n))

/-- The wait for the transfer out of window `n` to have left. -/
def drainOp (n : ℕ) : PR F PUnit := Prog.lift (.waitDma2 (sendS n) (win (n + 8)) (win n) (win_words (n + 8)) (win_words n))

/-- Window `n`'s turn. -/
def tick (d : Dev nD) (n : ℕ) : PR F PUnit := do
  if 8 ≤ n then recvOp n
  if n < 24 then sendOp d n

/-- Window `n` read. -/
def loadOp (n : ℕ) : PR F (Vec F S1x512x256 .bf16) :=
  Prog.lift (.load (buf (bOf n)) (winR n).toLoadRect (View.loadsAt_vmem h_S1x512x256))

/-- What a device holds of its result: per query tile the sums of the weights and of the weighted values. -/
abbrev Acc (F : FTy → Type) : Type := (FVec F S1024x1 .f32 × FVec F S1024x256 .f32) × (FVec F S1024x1 .f32 × FVec F S1024x256 .f32)

/-- The weights of a query tile against 512 keys. -/
def weigh (q : FVec F S1024x256 .bf16) (k : Vec F S1x512x256 .bf16) : FVec F S1024x512 .f32 :=
  exp2 (mulf (matmul dot_S1024x256_S512x256_S1024x512_1_1_0_0_n_n none q (shapeCast S512x256 k shapeCasts_S1x512x256_S512x256) (constant S1024x512 .f32 0x00000000#32))
    (broadcast S1024x512 (Named.named κ "scale" 0x3DB8AA3B#32)))

/-- 512 keys and values taken in for one query tile. -/
def step1 (q : FVec F S1024x256 .bf16) (a : FVec F S1024x1 .f32 × FVec F S1024x256 .f32) (k v : Vec F S1x512x256 .bf16) : FVec F S1024x1 .f32 × FVec F S1024x256 .f32 :=
  (addf a.1 (shapeCast S1024x1 (multiReduction .add [1] S1024 (weigh q k) 0x00000000#32 reduces_S1024x512_S1024 (.inl rfl) rfl) shapeCasts_S1024_S1024x1),
   addf a.2 (matmul dot_S1024x512_S512x256_S1024x256_1_0_0_1_n_n none (truncf .bf16 (weigh q k) bitsLt_bf16_f32)
     (shapeCast S512x256 v shapeCasts_S1x512x256_S512x256) (constant S1024x256 .f32 0x00000000#32)))

def step (q0 q1 : FVec F S1024x256 .bf16) (a : Acc F) (k v : Vec F S1x512x256 .bf16) : Acc F := (step1 q0 a.1 k v, step1 q1 a.2 k v)

def acc₀ : Acc F :=
  ((broadcast S1024x1 (Scalar.ofBits .f32 0x00000000#32), broadcast S1024x256 (Scalar.ofBits .f32 0x00000000#32)),
   (broadcast S1024x1 (Scalar.ofBits .f32 0x00000000#32), broadcast S1024x256 (Scalar.ofBits .f32 0x00000000#32)))

/-- Step `m`: windows `2 m` and `2 m + 1` read and taken in. -/
def takeOp (q0 q1 : FVec F S1024x256 .bf16) (m : ℕ) (a : Acc F) : PR F (Acc F) := do
  let k ← loadOp (2 * m)
  let v ← loadOp (2 * m + 1)
  pure (step q0 q1 a k v)

/-- The windows from `n` on, `k` of them, have their turns. -/
def ticks (d : Dev nD) : ℕ → ℕ → PR F PUnit
  | n, 0 => pure ⟨⟩
  | n, k + 1 => do tick d n; ticks d (n + 1) k

/-- The steps from `m` on, `k` of them, on windows that are there. -/
def takes (q0 q1 : FVec F S1024x256 .bf16) : ℕ → ℕ → Acc F → PR F (Acc F)
  | m, 0, a => pure a
  | m, k + 1, a => do let a' ← takeOp q0 q1 m a; takes q0 q1 (m + 1) k a'

/-- The steps from `m` on, `k` of them, each after the turns of its two windows. -/
def rounds (d : Dev nD) (q0 q1 : FVec F S1024x256 .bf16) : ℕ → ℕ → Acc F → PR F (Acc F)
  | m, 0, a => pure a
  | m, k + 1, a => do
    tick d (2 * m)
    tick d (2 * m + 1)
    let a' ← takeOp q0 q1 m a
    rounds d q0 q1 (m + 1) k a'

/-- The waits for the sends from `n` on, `k` of them. -/
def drains : ℕ → ℕ → PR F PUnit
  | n, 0 => pure ⟨⟩
  | n, k + 1 => do drainOp n; drains (n + 1) k

abbrev rTop : Rect S2048x256 := Rect.unit (s := S2048x256) ![0, 0] S1024x256.size inb_S2048x256_S1024x256_0_0
abbrev rBot : Rect S2048x256 := Rect.unit (s := S2048x256) ![1024, 0] S1024x256.size inb_S2048x256_S1024x256_1024_0
abbrev rSlot0 : Rect S4x1024x256 := Rect.unit (s := S4x1024x256) ![0, 0, 0] S1x1024x256.size inb_S4x1024x256_S1x1024x256_0_0_0

abbrev barS : Sem sig := (SemArray.scalar (sig.barrier 0 rfl) : Sems sig S_).sem

/-- Buffer `b`'s slot 0 filled with a half of a device's keys or values. -/
def fillOp (b : Fin 4) (x : Vec F S1024x256 .bf16) : PR F PUnit := do
  let _ ← Prog.lift (.load (buf b) rSlot0.toLoadRect (View.loadsAt_vmem h_S1x1024x256))
  Prog.lift (.store (buf b) rSlot0 (shapeCast S1x1024x256 (shapeCast S1024x256 x shapeCasts_S1024x256_S1024x256) shapeCasts_S1024x256_S1x1024x256) Finset.univ
    (View.stores_vmem h_S1x1024x256 ((buf_whole b).storeExact_slice rfl _ packedbf16_S4x1024x256_S1x1024x256_0_0_0) (fun _ => rfl)) (.inl rfl))

def loadTop (src : Memref sig .tc .vmem S2048x256 .bf16) : PR F (Vec F S1024x256 .bf16) := Prog.lift (.load src rTop.toLoadRect (View.loadsAt_vmem h_S1024x256))
def loadBot (src : Memref sig .tc .vmem S2048x256 .bf16) : PR F (Vec F S1024x256 .bf16) := Prog.lift (.load src rBot.toLoadRect (View.loadsAt_vmem h_S1024x256))

def storeTop (x : FVec F S1024x256 .f32) : PR F PUnit := do
  let _ ← Prog.lift (.load oM rTop.toLoadRect (View.loadsAt_vmem h_S1024x256))
  Prog.lift (.store oM rTop x Finset.univ (View.stores_vmem_bits_univ h_S1024x256 rfl) (.inl rfl))
def storeBot (x : FVec F S1024x256 .f32) : PR F PUnit := do
  let _ ← Prog.lift (.load oM rBot.toLoadRect (View.loadsAt_vmem h_S1024x256))
  Prog.lift (.store oM rBot x Finset.univ (View.stores_vmem_bits_univ h_S1024x256 rfl) (.inl rfl))

/-- The quotient of a query tile's two sums. -/
def quot (a : FVec F S1024x1 .f32 × FVec F S1024x256 .f32) : FVec F S1024x256 .f32 := divf a.2 (broadcastTo S1024x256 a.1 broadcasts_S1024x1_S1024x256)

/-- The whole kernel. -/
def body : PR F PUnit := do
  let d ← Prog.lift .deviceId
  semSignalWord (⟨k0_dev1 d, k0_dev1_lt d⟩ : Dev nD) barS 1#32
  semSignalWord (⟨k0_dev2 d, k0_dev2_lt d⟩ : Dev nD) barS 1#32
  let q0 ← loadTop qM
  let q1 ← loadBot qM
  let x0 ← loadTop kM
  fillOp 0 x0
  let x1 ← loadTop vM
  fillOp 1 x1
  let x2 ← loadBot kM
  fillOp 2 x2
  let x3 ← loadBot vM
  fillOp 3 x3
  semWaitWord barS 2#32
  ticks d 0 8
  let a ← takes (shapeCast S1024x256 q0 shapeCasts_S1024x256_S1024x256) (shapeCast S1024x256 q1 shapeCasts_S1024x256_S1024x256) 0 4 acc₀
  let a ← rounds d (shapeCast S1024x256 q0 shapeCasts_S1024x256_S1024x256) (shapeCast S1024x256 q1 shapeCasts_S1024x256_S1024x256) 4 12 a
  storeTop (quot a.1)
  storeBot (quot a.2)
  drains 0 24

set_option maxRecDepth 65536 in
set_option maxHeartbeats 4000000 in
/-- The printed kernel is that program. -/
theorem body_eq (t : Fin cfg0.N) : bodyAt0 (F := F) t = body (F := F) := by
  rfl

end Cert.Ring

end
-- ==== Proof.Windows.lean ====
/-
# The windows as things held

What holding a window means, at given values or at any; that the windows of a buffer are disjoint and cover it, so
that holding the four buffers is holding their windows; and what the kernel's steps on windows read and leave.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.VecWindow
public import Idealize.ShloMosaic.Lib.Ring
public import Idealize.ShloMosaic.Lib.ValueLayout
public import Idealize.ShloMosaic.Lib.Rounds

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

abbrev UB : Type := URounds (GSem nD τ sig) Bool
abbrev UU : Type := UR sig nD τ × UB

local notation "𝕄" => MT nD τ sig Unit (Elt F) ℕ UU ℕ

/-- Every type of elements has one. -/
instance elt_nonempty (e : EltTy) : Nonempty (Elt F e) := by
  cases e <;> first | exact ⟨(0 : BitVec _)⟩ | exact ⟨Scalar.ofBits _ 0⟩

/-! ## Holding a window -/

/-- Window `n` of device `c` held at share `q` with the values `X`. -/
def wPts (c : Dev nD) (n : ℕ) (q : PosShare TreeShare) (X : Vec F S512x256 .bf16) : sProp 𝕄 :=
  (win n).view.loc (c : Thread nD τ) ↦[(win n).view.set]{q} (win n).view.rep X

/-- Window `n` of device `c` held whole, at some values. -/
def wAny (c : Dev nD) (n : ℕ) : sProp 𝕄 :=
  iprop(∃ f, (win n).view.loc (c : Thread nD τ) ↦[(win n).view.set]{fullShare} f)

omit [Named F] in
instance wPts_storable (c : Dev nD) (n : ℕ) (q) (X : Vec F S512x256 .bf16) : BI.Storable (upEmb : UEmb _ 𝕄) (wPts c n q X) := by unfold wPts; infer_instance
omit [Named F] in
instance wAny_storable (c : Dev nD) (n : ℕ) : BI.Storable (upEmb : UEmb _ 𝕄) (wAny (F := F) c n) := by unfold wAny; infer_instance

omit [Named F] in
/-- A window held whole is its two half shares. -/
theorem wPts_halves (c : Dev nD) (n : ℕ) (X : Vec F S512x256 .bf16) :
    (wPts c n fullShare X : sProp 𝕄) ⊣⊢ iprop(wPts c n fullShare.left X ∗ wPts c n fullShare.right X) := by
  unfold wPts; exact pointsTo_share (PosShare.mem_left_op_right fullShare)

omit [Named F] in
theorem wPts_any (c : Dev nD) (n : ℕ) (X : Vec F S512x256 .bf16) : (wPts c n fullShare X : sProp 𝕄) ⊢ wAny c n := by
  unfold wPts wAny; iintro H; iexists _; iexact H

/-- Buffer `b` seen through window `n`'s box. -/
abbrev slv (b : Fin 4) (n : ℕ) : View sig .tc .vmem (winR n).shape .bf16 := (buf b).view.slice (winR n)

omit [Named F] in
theorem wAny_slice (c : Dev nD) {n : ℕ} {b : Fin 4} (h : bOf n = b) :
    (iprop(∃ f, (buf b).view.loc (c : Thread nD τ) ↦[(slv b n).set]{fullShare} f) : sProp 𝕄) = wAny c n := by
  subst h; unfold wAny
  rw [show (win n).view.set = (slv (bOf n) n).set from View.set_reshape _ _]

omit [Named F] in
/-- A buffer held on window `n` is the window held at what it reads. -/
theorem wPts_of_slice (c : Dev nD) {n : ℕ} {b : Fin 4} (h : bOf n = b) (q) (f : Buf (Elt F) ((buf b).view.loc (c : Thread nD τ))) (X : Vec F S512x256 .bf16)
    (hf : ∀ i : S512x256.Idx, (slv b n).read (Elt F) f (ix3 (0 : Fin 1) (i 0) (i 1)) = X i) :
    ((buf b).view.loc (c : Thread nD τ) ↦[(slv b n).set]{q} f : sProp 𝕄) ⊢ wPts c n q X := by
  subst h; unfold wPts
  rw [show (slv (bOf n) n).set = (win n).view.set from (View.set_reshape _ _).symm]
  refine pointsTo_rep_of_read (c : Thread nD τ) (win n) f q X (funext fun i => ?_)
  rw [← hf i]
  show (slv (bOf n) n).read (Elt F) f (Shape.reshapeEquiv _ i) = _
  conv_lhs => rw [eq_ix2 i]
  exact congrArg _ (reshapeEquiv_ix2_1ab _ _ _)

/-- What a window holding `X` is loaded as: `X` after the kernel's reshape. -/
theorem load_read (n : ℕ) (X : Vec F S512x256 .bf16) (h) :
    shapeCast S512x256 ((buf (bOf n)).view.readAt (Elt F) (winR n).toLoadRect ((win n).view.rep X)) h = X :=
  (win n).view.read_rep X

/-! ## The windows of a buffer -/

/-- An element lies in window `n`'s box when its slot and its row are that window's. -/
theorem mem_winR (n : ℕ) (x : S4x1024x256.Idx) : x ∈ (winR n).set ↔ (x 0).val = n / 8 % 4 ∧ (x 1).val / 512 = n / 4 % 2 := by
  have h0 := (x 0).isLt; have h1 := (x 1).isLt; have h2 := (x 2).isLt
  rw [Rect.mem_set_unit]
  constructor
  · intro h
    have a0 : n / 8 % 4 ≤ (x 0).val ∧ (x 0).val < n / 8 % 4 + 1 := h 0
    have a1 : n / 4 % 2 * 512 ≤ (x 1).val ∧ (x 1).val < n / 4 % 2 * 512 + 512 := h 1
    omega
  · rintro ⟨a0, a1⟩ a
    fin_cases a
    · show n / 8 % 4 ≤ (x 0).val ∧ (x 0).val < n / 8 % 4 + 1; omega
    · show n / 4 % 2 * 512 ≤ (x 1).val ∧ (x 1).val < n / 4 % 2 * 512 + 512; omega
    · show 0 ≤ (x 2).val ∧ (x 2).val < 0 + 256; exact ⟨Nat.zero_le _, by rw [Nat.zero_add]; exact h2⟩

theorem slv_set (b : Fin 4) (n : ℕ) : (slv b n).set = (winR n).set.map (buf b).view.emb := View.set_slice _ _

/-- Two windows of a buffer are apart. -/
theorem slv_disjoint (b : Fin 4) {n n' : ℕ} (h : ¬(n / 8 % 4 = n' / 8 % 4 ∧ n / 4 % 2 = n' / 4 % 2)) : Disjoint (slv b n).set (slv b n').set := by
  rw [slv_set, slv_set, Finset.disjoint_map, Finset.disjoint_left]
  intro x hx hx'
  rw [mem_winR] at hx hx'
  exact h ⟨hx.1.symm.trans hx'.1, hx.2.symm.trans hx'.2⟩

/-- The eight windows of a buffer are all of it. -/
theorem slv_cover (b : Fin 4) (N : Fin 8 → ℕ) (hN : ∀ j, N j = 4 * j.val + b.val) : (Finset.univ.biUnion fun j : Fin 8 => (slv b (N j)).set) = (buf b).view.set := by
  have hb := b.isLt
  ext i
  rw [Finset.mem_biUnion]
  constructor
  · rintro ⟨j, -, hj⟩; exact View.set_slice_subset _ _ hj
  · intro hi
    obtain ⟨x, -, rfl⟩ := Finset.mem_map.mp hi
    have h0 : (x 0).val < 4 := (x 0).isLt
    have h1 : (x 1).val < 1024 := (x 1).isLt
    refine ⟨⟨2 * (x 0).val + (x 1).val / 512, by omega⟩, Finset.mem_univ _, ?_⟩
    rw [slv_set]
    refine Finset.mem_map_of_mem _ ((mem_winR _ x).mpr ⟨?_, ?_⟩) <;> rw [hN] <;> dsimp only <;> omega

theorem at_ne (b : Fin 4) (N : Fin 8 → ℕ) (hN : ∀ j, N j = 4 * j.val + b.val) {j j' : Fin 8} (h : j ≠ j') :
    ¬(N j / 8 % 4 = N j' / 8 % 4 ∧ N j / 4 % 2 = N j' / 4 % 2) := by
  have hb := b.isLt; have hj := j.isLt; have hj' := j'.isLt
  have hne : j.val ≠ j'.val := fun e => h (Fin.ext e)
  rw [hN, hN]
  omega

omit [Named F] in
/-- A set of places held whole is the parts of any cut of it held whole. -/
theorem sets_split {ℓ : Loc nD τ sig} {B : Type} [Fintype B] [DecidableEq B] (I : B → Finset (Idx ℓ)) (hd : ∀ b b', b ≠ b' → Disjoint (I b) (I b'))
    (S : Finset (Idx ℓ)) (hS : Finset.univ.biUnion I = S) (f₀ : Buf (Elt F) ℓ) :
    (iprop(∃ f, ℓ ↦[S]{fullShare} f) : sProp 𝕄) ⊣⊢ bigSep Finset.univ fun b => iprop(∃ f, ℓ ↦[I b]{fullShare} f) := by
  refine ⟨?_, Ring.pointsTo_sub_blocks_join_exists I hd S hS f₀⟩
  iintro ⟨%f, H⟩
  iapply ((Entails.of_eq (Ring.pointsTo_sub_blocks I hd S hS f)).trans (bigSep_mono fun b _ =>
    show (ℓ ↦[I b]{fullShare} f : sProp 𝕄) ⊢ iprop(∃ f, ℓ ↦[I b]{fullShare} f) by iintro H; iexists f; iexact H)) $$ H

omit [Named F] in
/-- A buffer held whole is its eight windows held whole. -/
theorem buf_windows (c : Dev nD) (b : Fin 4) (N : Fin 8 → ℕ) (hN : ∀ j, N j = 4 * j.val + b.val) :
    (iprop(∃ f, (buf b).view.loc (c : Thread nD τ) ↦[(buf b).view.set]{fullShare} f) : sProp 𝕄) ⊣⊢ bigSep Finset.univ fun j : Fin 8 => wAny c (N j) := by
  have hd := fun (j j' : Fin 8) (h : j ≠ j') => slv_disjoint b (at_ne b N hN h)
  have hb : ∀ j, bOf (N j) = b := fun j => Fin.ext (by have := b.isLt; show N j % 4 = b.val; rw [hN]; omega)
  have e : (bigSep Finset.univ fun j : Fin 8 => (wAny c (N j) : sProp 𝕄))
      = bigSep Finset.univ fun j : Fin 8 => iprop(∃ f, (buf b).view.loc (c : Thread nD τ) ↦[(slv b (N j)).set]{fullShare} f) :=
    bigSep_congr fun j _ => (wAny_slice (F := F) c (hb j)).symm
  rw [e]
  exact sets_split (ℓ := (buf b).view.loc (c : Thread nD τ)) (fun j : Fin 8 => (slv b (N j)).set) hd _ (slv_cover b N hN) ((buf b).view.rep fun _ => (elt_nonempty (F := F) .bf16).some)

omit [Named F] in
/-- The four buffers held whole are the thirty-two windows held whole. -/
theorem bufs_windows (c : Dev nD) :
    (bigSep Finset.univ fun b : Fin 4 => (iprop(∃ f, (buf b).view.loc (c : Thread nD τ) ↦[(buf b).view.set]{fullShare} f) : sProp 𝕄))
      ⊣⊢ bigSep Finset.univ fun n : Fin 32 => wAny c n.val := by
  have e : (bigSep Finset.univ fun n : Fin 32 => (wAny c n.val : sProp 𝕄)) = bigSep Finset.univ fun b : Fin 4 => bigSep Finset.univ fun j : Fin 8 => wAny c (4 * j.val + b.val) := by
    rw [bigSep_univ_equiv (finProdFinEquiv : Fin 8 × Fin 4 ≃ Fin 32), bigSep_univ_prod, bigSep_univ_comm]
    exact bigSep_congr fun b _ => bigSep_congr fun j _ => by
      show wAny c (b.val + 4 * j.val) = _; rw [Nat.add_comm]
  rw [e]
  exact ⟨bigSep_mono fun b _ => (buf_windows c b _ fun _ => rfl).1, bigSep_mono fun b _ => (buf_windows c b _ fun _ => rfl).2⟩

end Cert.Ring

end
-- ==== Proof.Protocol.lean ====
/-
# The schedule of the exchange

Which semaphore stands for what: the barrier cell of a device has two duties, one per neighbour, and each hands over the
windows the device will send into; the cell of a send gives back the half share of the window lent to it; the cell of a
receive gives the window holding what was sent. Every cell has one round. What each device owes, at which levels, and
that every wait is allowed.
-/
module

public import proofs.«01_k».proof.Proof.Windows

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = nxt c := by revert c; decide
theorem dev5_eq (c : Dev nD) : (⟨k0_dev5 c, k0_dev5_lt c⟩ : Dev nD) = prv c := by revert c; decide
theorem dev6_eq (c : Dev nD) : (⟨k0_dev6 c, k0_dev6_lt c⟩ : Dev nD) = prv c := by revert c; decide

/-- Windows of the first two buffers go to the right neighbour, those of the others to the left one. -/
theorem tgt_eq (n : ℕ) (c : Dev nD) : tgt n c = if n % 4 < 2 then nxt c else prv c := by
  have key : ∀ b : Fin 4, (match b with
      | 0 => (⟨k0_dev3 c, k0_dev3_lt c⟩ : Dev nD) | 1 => ⟨k0_dev4 c, k0_dev4_lt c⟩ | 2 => ⟨k0_dev5 c, k0_dev5_lt c⟩ | 3 => ⟨k0_dev6 c, k0_dev6_lt c⟩)
      = if b.val < 2 then nxt c else prv c := by
    intro b; fin_cases b
    · exact dev3_eq c
    · exact dev4_eq c
    · exact dev5_eq c
    · exact dev6_eq c
  exact key (bOf n)

/-- The neighbour window `n` comes from. -/
def org (n : ℕ) (c : Dev nD) : Dev nD := if n % 4 < 2 then prv c else nxt c

theorem org_tgt (n : ℕ) (c : Dev nD) : org n (tgt n c) = c := by
  rw [tgt_eq]; unfold org; by_cases h : n % 4 < 2
  · rw [if_pos h, if_pos h, prv_nxt]
  · rw [if_neg h, if_neg h, nxt_prv]
theorem tgt_org (n : ℕ) (c : Dev nD) : tgt n (org n c) = c := by
  rw [tgt_eq]; unfold org; by_cases h : n % 4 < 2
  · rw [if_pos h, if_pos h, nxt_prv]
  · rw [if_neg h, if_neg h, prv_nxt]

/-! ## What the windows hold -/

/-- The device whose keys or values window `n` of device `c` holds: `n / 8` steps up the way the window travels. -/
def home (n : ℕ) (c : Dev nD) : Dev nD := (org n)^[n / 8] c

theorem home_next (n : ℕ) (c : Dev nD) : home (n + 8) (tgt n c) = home n c := by
  have e : org (n + 8) = org n := by unfold org; rw [show (n + 8) % 4 = n % 4 by omega]
  unfold home
  rw [e, show (n + 8) / 8 = n / 8 + 1 by omega, Function.iterate_succ_apply, org_tgt]

/-- The row of a device's keys or values that row `r` of window `n` holds. -/
def rowOf (n : ℕ) (r : Fin 512) : Fin 2048 :=
  ⟨n / 4 % 2 * 512 + (if n % 4 < 2 then 0 else 1024) + r.val, by have := r.isLt; split <;> omega⟩

variable (kv : Fin 2 → Dev nD → Vec F S2048x256 .bf16)

/-- What window `n` of device `c` holds once it is filled: keys (even windows) or values (odd ones) of its home. -/
def held (c : Dev nD) (n : ℕ) : Vec F S512x256 .bf16 :=
  fun i => kv ⟨n % 2, Nat.mod_lt _ (by decide)⟩ (home n c) (ix2 (rowOf n (i 0)) (i 1))

omit [FloatOps F] [Named F] in
/-- What a window holds is what it is sent. -/
theorem held_next (c : Dev nD) (n : ℕ) : held kv (tgt n c) (n + 8) = held kv c n := by
  have h1 : (⟨(n + 8) % 2, Nat.mod_lt _ (by decide)⟩ : Fin 2) = ⟨n % 2, Nat.mod_lt _ (by decide)⟩ := Fin.ext (by show (n + 8) % 2 = n % 2; omega)
  have h2 : rowOf (n + 8) = rowOf n := by
    funext r; refine Fin.ext ?_
    show (n + 8) / 4 % 2 * 512 + (if (n + 8) % 4 < 2 then 0 else 1024) + r.val = n / 4 % 2 * 512 + (if n % 4 < 2 then 0 else 1024) + r.val
    split <;> split <;> omega
  unfold held; rw [h1, h2, home_next]

/-! ## The cells -/

abbrev barCell (c : Dev nD) : GSem nD τ sig := ((c : Thread nD τ), .reg barS)
abbrev sCell (c : Dev nD) (n : ℕ) : GSem nD τ sig := ((c : Thread nD τ), .dma (sendS n))
abbrev rCell (c : Dev nD) (n : ℕ) : GSem nD τ sig := ((c : Thread nD τ), .dma (recvS n))

/-- The window a semaphore is of, and whether it is the one for what lands in it. -/
def winOf (a : ℕ) : ℕ := 4 * ((a - 4) % 8) + (a - 4) / 16
def isRecv (a : ℕ) : Prop := (a - 4) / 8 % 2 = 1
instance (a : ℕ) : Decidable (isRecv a) := by unfold isRecv; infer_instance

theorem at_send {b j : ℕ} (hb : b < 4) (hj : j < 8) : winOf (4 + 16 * b + j) = 4 * j + b ∧ ¬isRecv (4 + 16 * b + j) := by
  unfold winOf isRecv; rw [show 4 + 16 * b + j - 4 = 16 * b + j by omega]; omega
theorem at_recv {b j : ℕ} (hb : b < 4) (hj : j < 8) : winOf (12 + 16 * b + j) = 4 * j + b ∧ isRecv (12 + 16 * b + j) := by
  unfold winOf isRecv; rw [show 12 + 16 * b + j - 4 = 16 * b + (j + 8) by omega]; omega
theorem winOf_send {n : ℕ} (h : n < 32) : winOf (sendS n).val = n := (at_send (Nat.mod_lt n (by decide)) (Nat.mod_lt (n / 4) (by decide))).1.trans (by omega)
theorem winOf_recv {n : ℕ} (h : n < 32) : winOf (recvS n).val = n := (at_recv (Nat.mod_lt n (by decide)) (Nat.mod_lt (n / 4) (by decide))).1.trans (by omega)
theorem not_isRecv_send (n : ℕ) : ¬isRecv (sendS n).val := (at_send (Nat.mod_lt n (by decide)) (Nat.mod_lt (n / 4) (by decide))).2
theorem isRecv_recv (n : ℕ) : isRecv (recvS n).val := (at_recv (Nat.mod_lt n (by decide)) (Nat.mod_lt (n / 4) (by decide))).2

/-- The bytes a window's transfer counts for. -/
abbrev Nc : ℕ := (win 0).view.dmaCredit
theorem Nc_pos : 0 < Nc := View.dmaCredit_pos _ (by decide)

theorem credit_eq (n : ℕ) : (win n).view.dmaCredit = Nc := by
  show (buf (bOf n)).view.ref.dmaCredit S512x256 .bf16 = _
  generalize bOf n = b
  fin_cases b <;> rfl

/-! ## The schedule -/

/-- What neighbour `d` (the right one for `true`) hands device `c` at the barrier: the windows of its own that `c` sends into. -/
def barPay (c : Dev nD) (d : Bool) : sProp 𝕄 :=
  bigSep (Finset.univ.filter fun n : Fin 24 => decide (n.val % 4 < 2) = d) fun n => wAny (tgt n.val c) (n.val + 8)

/-- A cell's duties at round 0. -/
def dut : SemLoc sig → Finset Bool
  | .reg s => if s = barS then Finset.univ else ∅
  | .dma a => if (isRecv a.val ∧ 8 ≤ winOf a.val) ∨ (¬isRecv a.val ∧ winOf a.val < 24 ∧ 4 ≤ a.val) then {false} else ∅

/-- What a duty hands over. -/
def pay (c : Dev nD) : SemLoc sig → Bool → sProp 𝕄
  | .reg _, d => barPay c d
  | .dma a, _ => wPts c (winOf a.val) (if isRecv a.val then fullShare else fullShare.left) (held kv c (winOf a.val))

/-- What a duty counts for. -/
def amt : SemLoc sig → ℕ
  | .reg _ => 1
  | .dma _ => Nc

omit [FloatOps F] [Named F] in
theorem amt_pos : ∀ sm : SemLoc sig, 0 < amt sm
  | .reg _ => Nat.one_pos
  | .dma _ => Nc_pos

def sched : Rounds.Schedule (GSem nD τ sig) Bool 𝕄 where
  duties g r := if r = 0 ∧ g.1.2 = .tc then dut g.2 else ∅
  unitless _ := False
  amount g _ _ := amt g.2
  payload g _ d := pay kv g.1.1 g.2 d
  amount_pos g _ _ _ := amt_pos g.2

instance sched_storable (g : GSem nD τ sig) (r : ℕ) (d : Bool) : BI.Storable (upEmb : UEmb _ 𝕄) ((sched kv).payload g r d) := by
  show BI.Storable upEmb (pay kv g.1.1 g.2 d)
  rcases g.2 with s | a
  · show BI.Storable upEmb (barPay g.1.1 d); unfold barPay; infer_instance
  · show BI.Storable upEmb (wPts _ _ _ _); infer_instance

section Sched
variable (c : Dev nD)

theorem duties_tc (sm : SemLoc sig) : (sched kv).duties ((c : Thread nD τ), sm) 0 = dut sm := by dsimp only [sched]; exact if_pos ⟨rfl, rfl⟩
theorem duties_later (g : GSem nD τ sig) : ∀ r, 1 ≤ r → (sched kv).duties g r = ∅ := fun r hr => by dsimp only [sched]; exact if_neg fun h => by omega

theorem duties_bar : (sched kv).duties (barCell c) 0 = Finset.univ := (duties_tc kv c _).trans (by dsimp only [dut]; exact if_pos rfl)
theorem duties_send {n : ℕ} (h : n < 24) : (sched kv).duties (sCell c n) 0 = {false} :=
  (duties_tc kv c _).trans (if_pos (.inr ⟨not_isRecv_send n, by rw [winOf_send (by omega)]; exact h, by show 4 ≤ 4 + 16 * (n % 4) + n / 4 % 8; omega⟩))
theorem duties_recv {n : ℕ} (h : 8 ≤ n) (h' : n < 32) : (sched kv).duties (rCell c n) 0 = {false} :=
  (duties_tc kv c _).trans (if_pos (.inl ⟨isRecv_recv n, by rw [winOf_recv h']; exact h⟩))
/-- A send's cell that no send uses has no duty; -/
theorem duties_send_idle {n : ℕ} (h : 24 ≤ n) (h' : n < 32) (r : ℕ) : (sched kv).duties (sCell c n) r = ∅ := by
  by_cases hr : r = 0
  · subst hr
    refine (duties_tc kv c _).trans (if_neg ?_)
    rintro (⟨h1, -⟩ | ⟨-, h2, -⟩)
    · exact not_isRecv_send n h1
    · rw [winOf_send h'] at h2; omega
  · exact duties_later kv _ r (by omega)
/-- nor a receive's that nothing lands at. -/
theorem duties_recv_idle {n : ℕ} (h : n < 8) (r : ℕ) : (sched kv).duties (rCell c n) r = ∅ := by
  by_cases hr : r = 0
  · subst hr
    refine (duties_tc kv c _).trans (if_neg ?_)
    rintro (⟨-, h2⟩ | ⟨h1, -⟩)
    · rw [winOf_recv (by omega)] at h2; omega
    · exact h1 (isRecv_recv n)
  · exact duties_later kv _ r (by omega)

theorem expect_bar : (sched kv).expect (barCell c) 0 = 2 := by
  unfold Schedule.expect Schedule.amountOf
  rw [duties_bar]; rfl
theorem expect_send {n : ℕ} (h : n < 24) : (sched kv).expect (sCell c n) 0 = Nc := by
  unfold Schedule.expect Schedule.amountOf; rw [duties_send kv c h, Finset.sum_singleton]; rfl
theorem expect_recv {n : ℕ} (h : 8 ≤ n) (h' : n < 32) : (sched kv).expect (rCell c n) 0 = Nc := by
  unfold Schedule.expect Schedule.amountOf; rw [duties_recv kv c h h', Finset.sum_singleton]; rfl

theorem payload_send {n : ℕ} (h : n < 32) (d : Bool) : (sched kv).payload (sCell c n) 0 d = wPts c n fullShare.left (held kv c n) := by
  show wPts c (winOf (sendS n).val) (if isRecv (sendS n).val then fullShare else fullShare.left) (held kv c (winOf (sendS n).val)) = _
  rw [winOf_send h, if_neg (not_isRecv_send n)]
theorem payload_recv {n : ℕ} (h : n < 32) (d : Bool) : (sched kv).payload (rCell c n) 0 d = wPts c n fullShare (held kv c n) := by
  show wPts c (winOf (recvS n).val) (if isRecv (recvS n).val then fullShare else fullShare.left) (held kv c (winOf (recvS n).val)) = _
  rw [winOf_recv h, if_pos (isRecv_recv n)]

theorem rest_send {n : ℕ} (h : n < 24) : bigSep ((sched kv).duties (sCell c n) 0 \ ∅) (fun d => (sched kv).payload (sCell c n) 0 d) = wPts c n fullShare.left (held kv c n) := by
  rw [Finset.sdiff_empty, duties_send kv c h, bigSep_singleton, payload_send kv c (by omega)]
theorem rest_recv {n : ℕ} (h : 8 ≤ n) (h' : n < 32) : bigSep ((sched kv).duties (rCell c n) 0 \ ∅) (fun d => (sched kv).payload (rCell c n) 0 d) = wPts c n fullShare (held kv c n) := by
  rw [Finset.sdiff_empty, duties_recv kv c h h', bigSep_singleton, payload_recv kv c h']

/-- The barrier gives a device every window it sends into. -/
theorem rest_bar : bigSep ((sched kv).duties (barCell c) 0 \ ∅) (fun d => (sched kv).payload (barCell c) 0 d)
    = (bigSep Finset.univ fun n : Fin 24 => wAny (tgt n.val c) (n.val + 8) : sProp 𝕄) := by
  rw [Finset.sdiff_empty, duties_bar, bigSep_univ_eq_bigSepL [true, false] (by decide) (by decide), bigSepL_cons_cons, bigSepL_singleton,
    bigSep_filter_split Finset.univ (fun n : Fin 24 => decide (n.val % 4 < 2) = true)]
  show iprop(barPay c true ∗ barPay c false) = _
  unfold barPay
  refine congrArg _ (congrArg (fun S => bigSep S _) (Finset.filter_congr fun n _ => ?_))
  rw [Bool.not_eq_true]

end Sched

/-! ## What a device owes, and the levels -/

/-- What device `c` still owes before its turn at window `N`: the transfers from `N` on. -/
def due (c : Dev nD) (N : ℕ) : CellTallies nD τ sig Unit := ∑ n ∈ Finset.Ico N 24, tallyAt (rCell (tgt n c) (n + 8)) () Nc
/-- The same before it signals the right neighbour, and before it signals the left one. -/
def O₁ (c : Dev nD) : CellTallies nD τ sig Unit := due c 0 + tallyAt (barCell (nxt c)) () 1
def O₀ (c : Dev nD) : CellTallies nD τ sig Unit := O₁ c + tallyAt (barCell (prv c)) () 1

theorem due_succ (c : Dev nD) {N : ℕ} (h : N < 24) : due c N = due c (N + 1) + tallyAt (rCell (tgt N c) (N + 8)) () Nc := by
  unfold due; rw [Finset.sum_eq_sum_Ico_succ_bot h, add_comm]
theorem due_end (c : Dev nD) {N : ℕ} (h : 24 ≤ N) : due c N = 0 := by unfold due; rw [Finset.Ico_eq_empty (by omega), Finset.sum_empty]

def L (g : GSem nD τ sig) : Finset Unit := if g.1.2 = .tc then {()} else ∅
/-- Barrier cells at 1, the receive of window `n` at `n + 2`, everything else at 0. -/
def lvl : SemLoc sig → ℕ
  | .reg _ => 1
  | .dma a => if isRecv a.val then winOf a.val + 2 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) {n : ℕ} (h : n < 32) (u : Unit) : lv (rCell c n) u = n + 2 := by
  show (if isRecv (recvS n).val then winOf (recvS n).val + 2 else 0) = _
  rw [if_pos (isRecv_recv n), winOf_recv h]

theorem tally_pos {g g' : GSem nD τ sig} {u : Unit} {k : ℕ} (h : 0 < tallyAt g' () k g u) : g = g' := by
  by_contra hn
  rw [tallyAt_apply, if_neg fun h' => hn h'.1] at h
  exact Nat.lt_irrefl 0 h

theorem due_pos {c : Dev nD} {N : ℕ} {g : GSem nD τ sig} {u : Unit} (h : 0 < due c N g u) : ∃ n, N ≤ n ∧ n < 24 ∧ g = rCell (tgt n c) (n + 8) := by
  unfold due at h
  rw [Finset.sum_apply, Finsupp.finset_sum_apply] at h
  obtain ⟨n, hn, h0⟩ := Finset.exists_ne_zero_of_sum_ne_zero (Nat.pos_iff_ne_zero.mp h)
  obtain ⟨h1, h2⟩ := Finset.mem_Ico.mp hn
  exact ⟨n, h1, h2, tally_pos (Nat.pos_of_ne_zero h0)⟩

theorem O₀_pos {c : Dev nD} {g : GSem nD τ sig} {u : Unit} (h : 0 < O₀ c g u) :
    (∃ n, n < 24 ∧ g = rCell (tgt n c) (n + 8)) ∨ g = barCell (nxt c) ∨ g = barCell (prv c) := by
  unfold O₀ O₁ at h
  rw [Pi.add_apply, Finsupp.add_apply, Pi.add_apply, Finsupp.add_apply] at h
  rcases Nat.eq_zero_or_pos (due c 0 g u) with h1 | h1
  · rcases Nat.eq_zero_or_pos (tallyAt (barCell (nxt c)) () 1 g u) with h2 | h2
    · rw [h1, h2] at h; exact .inr (.inr (tally_pos (k := 1) (by simpa using h)))
    · exact .inr (.inl (tally_pos h2))
  · obtain ⟨n, -, h2, h3⟩ := due_pos h1; exact .inl ⟨n, h2, h3⟩

/-- A wait is allowed when all that is owed lies above its level. -/
theorem mayWait_cut (c : Dev nD) (sm : SemLoc sig) (O : CellTallies nD τ sig Unit)
    (h : ∀ g u, 0 < O g u → g.1.2 = .tc ∧ lvl sm < lv g u) : (levAts L lv : sProp 𝕄) ⊢ MayWait (c : Thread nD τ) sm () O :=
  MayOwe.of_cut (L := L) (lev := lv) (lvl sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact Nat.le_refl _)
    (fun g u hg => (h g u hg).2)

/-- The wait for what lands in window `N`, with the transfers from `N` on owed. -/
theorem mayWait_recv (c : Dev nD) {N : ℕ} (hN : N < 32) : (levAts L lv : sProp 𝕄) ⊢ MayWait (c : Thread nD τ) (.dma (recvS N)) () (due c N) :=
  mayWait_cut c _ _ fun g u hg => by
    obtain ⟨n, h1, h2, rfl⟩ := due_pos hg
    refine ⟨rfl, ?_⟩
    rw [lv_recv _ (by omega), show lvl (.dma (recvS N)) = N + 2 from lv_recv c hN ()]; omega

/-- The wait at the barrier, with all transfers owed. -/
theorem mayWait_bar (c : Dev nD) : (levAts L lv : sProp 𝕄) ⊢ MayWait (c : Thread nD τ) (.reg barS) () (due c 0) :=
  mayWait_cut c _ _ fun g u hg => by
    obtain ⟨n, h1, h2, rfl⟩ := due_pos hg
    exact ⟨rfl, by rw [lv_recv _ (by omega)]; show 1 < n + 8 + 2; omega⟩

/-- The waits of the launch's own copies, owing everything or nothing. -/
theorem mayWait_stage (c : Dev nD) (q : DmaSem sig) (hq : lvl (.dma q) = 0) (O : CellTallies nD τ sig Unit) (hO : O = O₀ c ∨ O = 0) :
    (levAts L lv : sProp 𝕄) ⊢ MayWait (c : Thread nD τ) (.dma q) () O := by
  rcases hO with rfl | rfl
  · refine mayWait_cut c _ _ fun g u hg => ?_
    rw [hq]
    rcases O₀_pos hg with ⟨n, h, rfl⟩ | rfl | rfl
    · exact ⟨rfl, by rw [lv_recv _ (by omega)]; omega⟩
    · exact ⟨rfl, Nat.one_pos⟩
    · exact ⟨rfl, Nat.one_pos⟩
  · rw [MayWait_zero]; iintro -; iempintro

end Cert.Ring

end
-- ==== Proof.Touch.lean ====
/-
# Reading and filling windows

What a load of a window gives, and what filling a buffer's slot 0 leaves in its two windows.
-/
module

public import proofs.«01_k».proof.Proof.Windows

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

abbrev 𝒱₀ : Variants := Variants.none

/-- What device `c` needs to run `P` and end at `Q`. -/
abbrev runs {α : Type} (c : Dev nD) (P : PR F α) (Q : α → sProp 𝕄) : sProp 𝕄 :=
  wp frame (wpE (defs₀ (F := F)) 𝒱₀ (c : Thread nD τ) none) Set.univ P Q

/-- A window loaded, at any share: the load gives what it holds. -/
theorem runs_load (c : Dev nD) (n : ℕ) (q : PosShare TreeShare) (X : Vec F S512x256 .bf16) (Q : Vec F S1x512x256 .bf16 → sProp 𝕄) :
    iprop(wPts c n q X ∗ (∀ x, (⌜shapeCast S512x256 x shapeCasts_S1x512x256_S512x256 = X⌝ ∗ wPts c n q X) -∗ Q x)) ⊢ runs c (loadOp n) Q := by
  unfold wPts loadOp Prog.lift
  iintro ⟨H, HQ⟩
  iapply (wp_load 𝒱₀ (c : Thread nD τ) none Set.univ (m := buf (bOf n)) (S := (win n).view.set) (by
    rw [show (win n).view.set = (slv (bOf n) n).set from View.set_reshape _ _, slv_set]; exact Finset.Subset.refl _)) $$ H
  iintro H
  iapply le_wp_ret
  iapply HQ
  isplitr
  · ipureintro; exact load_read n X _
  · iexact H

theorem slot0_union {b n n' : ℕ} (h : n / 8 % 4 = 0) (h' : n' / 8 % 4 = 0) (e : n / 4 % 2 = 0) (e' : n' / 4 % 2 = 1) :
    rSlot0.set ⊆ (winR n).set ∪ (winR n').set := by
  intro x hx
  rw [Rect.mem_set_unit] at hx
  have h0 : 0 ≤ (x 0).val ∧ (x 0).val < 0 + 1 := hx 0
  have h1 : (x 1).val < 1024 := (x 1).isLt
  rw [Finset.mem_union, mem_winR, mem_winR]
  omega

/-- What the windows of a filled slot hold: the upper or the lower half of what it was filled with. -/
def part (x : Vec F S1024x256 .bf16) (j : Fin 2) : Vec F S512x256 .bf16 :=
  fun i => x (ix2 (⟨j.val * 512 + (i 0).val, by have h : (i 0).val < 512 := (i 0).isLt; have := j.isLt; omega⟩ : Fin 1024) (i 1))

theorem fill_read (b : Fin 4) (n : ℕ) (hn : n / 8 % 4 = 0) (j : Fin 2) (hj : n / 4 % 2 = j.val) (x : Vec F S1024x256 .bf16)
    (f : (buf b).view.ty.Contents (Elt F)) (i : S512x256.Idx) :
    (slv b n).read (Elt F) (((buf b).access rSlot0).write (Elt F) f
      (shapeCast S1x1024x256 (shapeCast S1024x256 x shapeCasts_S1024x256_S1024x256) shapeCasts_S1024x256_S1x1024x256) Finset.univ) (ix3 (0 : Fin 1) (i 0) (i 1))
      = part x j i := by
  have h0 : (i 0).val < 512 := (i 0).isLt
  have e : (winR n).emb (ix3 (0 : Fin 1) (i 0) (i 1)) = rSlot0.emb (ix3 (0 : Fin 1) (⟨j.val * 512 + (i 0).val, by have := j.isLt; omega⟩ : Fin 1024) (i 1)) := by
    refine funext fun a => Fin.ext ?_
    fin_cases a
    · show n / 8 % 4 + 1 * 0 = 0 + 1 * 0; omega
    · show n / 4 % 2 * 512 + 1 * (i 0).val = 0 + 1 * (j.val * 512 + (i 0).val); omega
    · rfl
  refine (congrArg ((buf b).view.read (Elt F) _) e).trans ((View.read_slice_write_emb rSlot0 f _ (Finset.mem_univ _)).trans ?_)
  rw [shapeCast_self]
  exact shapeCast_ab_1ab_apply x _ _ _ _

/-- A buffer's slot 0 filled: its two windows hold the two halves. -/
theorem runs_fill (c : Dev nD) (b : Fin 4) {n n' : ℕ} (h : n = b.val) (h' : n' = b.val + 4) (x : Vec F S1024x256 .bf16) (Q : PUnit → sProp 𝕄) :
    iprop(wAny c n ∗ wAny c n' ∗ ((wPts c n fullShare (part x 0) ∗ wPts c n' fullShare (part x 1)) -∗ Q ⟨⟩)) ⊢ runs c (fillOp b x) Q := by
  have hb := b.isLt
  have hn : bOf n = b := Fin.ext (by show n % 4 = b.val; omega)
  have hn' : bOf n' = b := Fin.ext (by show n' % 4 = b.val; omega)
  have hd : Disjoint (slv b n).set (slv b n').set := slv_disjoint b (by omega)
  have hS : (buf b).view.setOn rSlot0.set ⊆ (slv b n).set ∪ (slv b n').set := by
    rw [slv_set, slv_set, ← Finset.map_union]
    exact Finset.map_subset_map.mpr (slot0_union (b := 0) (by omega) (by omega) (by omega) (by omega))
  rw [← wAny_slice c hn, ← wAny_slice c hn']
  unfold fillOp Prog.lift
  simp only [Prog.bind_op, Prog.bind_ret]
  iintro ⟨⟨%f, H⟩, ⟨%f', H'⟩, HQ⟩
  ihave HS := (pointsTo_join (ℓ := (buf b).view.loc (c : Thread nD τ)) hd) $$ [H H']
  · isplitl [H] <;> iassumption
  iapply (wp_load 𝒱₀ (c : Thread nD τ) none Set.univ (m := buf b) hS) $$ HS; iintro HS
  iapply (wp_store 𝒱₀ (c : Thread nD τ) none Set.univ (m := buf b) (r := rSlot0) (Mk := Finset.univ) (S := (slv b n).set ∪ (slv b n').set) (by
    refine Finset.Subset.trans (Finset.Subset.trans (View.setOn_subset_set _ _) ?_) hS
    rw [show (Memref.access (buf b) rSlot0).set = _ from View.set_slice _ _]; exact Finset.Subset.refl _)) $$ HS; iintro HS
  iapply le_wp_ret
  iapply HQ
  ihave HS := ((pointsTo_union hd).1) $$ HS
  icases HS with ⟨H, H'⟩
  isplitl [H]
  · iapply (wPts_of_slice c hn fullShare _ (part x 0) (fill_read b n (by omega) 0 (by show _ = 0; omega) x _)) $$ H
  · iapply (wPts_of_slice c hn' fullShare _ (part x 1) (fill_read b n' (by omega) 1 (by show _ = 1; omega) x _)) $$ H'

end Cert.Ring

end
-- ==== Proof.Steps.lean ====
/-
# The turns of the windows

What a device holds of each window before its turn, after it, and after its send is waited for; and that the turns, the
steps and the final waits take one to the next.
-/
module

public import proofs.«01_k».proof.Proof.Protocol
public import proofs.«01_k».proof.Proof.Touch

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (kv : Fin 2 → Dev nD → Vec F S2048x256 .bf16)

/-! ## The cells' records -/

/-- A device's cells: its barrier's, its sends', its receives'. -/
abbrev Ck : Type := Unit ⊕ (Fin 32 ⊕ Fin 32)
abbrev csem : Ck → SemLoc sig
  | .inl _ => .reg barS
  | .inr (.inl n) => .dma (sendS n.val)
  | .inr (.inr n) => .dma (recvS n.val)
abbrev kcell (ck : Dev nD × Ck) : GSem nD τ sig := ((ck.1 : Thread nD τ), csem ck.2)

/-- Every cell follows the schedule, and is past nothing. -/
def records (K : Dev nD × Ck → ℕ) : sProp 𝕄 :=
  iprop((bigSep Finset.univ fun ck : Dev nD × Ck => cellInv ER (sched kv) (K ck) (kcell ck)) ∗ bigSep Finset.univ fun ck : Dev nD × Ck => reached ER (kcell ck) 0)

instance records_persistent (K : Dev nD × Ck → ℕ) : BI.Persistent (records kv K) := by unfold records; infer_instance

variable (K : Dev nD × Ck → ℕ)

theorem rec_inv (ck : Dev nD × Ck) : (records kv K : sProp 𝕄) ⊢ cellInv ER (sched kv) (K ck) (kcell ck) := by
  unfold records
  have e : (bigSep Finset.univ fun ck : Dev nD × Ck => (cellInv ER (sched kv) (K ck) (kcell ck) : sProp 𝕄)) ⊢ cellInv ER (sched kv) (K ck) (kcell ck) := bigSep_elim (Finset.mem_univ ck)
  iintro ⟨H, -⟩; iapply e $$ H
theorem rec_reached (ck : Dev nD × Ck) : (records kv K : sProp 𝕄) ⊢ reached ER (kcell ck) 0 := by
  unfold records
  have e : (bigSep Finset.univ fun ck : Dev nD × Ck => (reached ER (kcell ck) 0 : sProp 𝕄)) ⊢ reached ER (kcell ck) 0 := bigSep_elim (Finset.mem_univ ck)
  iintro ⟨-, H⟩; iapply e $$ H

/-- The name of a send's cell, and of a receive's. -/
abbrev kS (c : Dev nD) {n : ℕ} (h : n < 32) : ℕ := K (c, .inr (.inl ⟨n, h⟩))
abbrev kR (c : Dev nD) {n : ℕ} (h : n < 32) : ℕ := K (c, .inr (.inr ⟨n, h⟩))

theorem rec_send (c : Dev nD) {n : ℕ} (h : n < 32) : (records kv K : sProp 𝕄) ⊢ iprop(cellInv ER (sched kv) (kS K c h) (sCell c n) ∗ reached ER (sCell c n) 0) := by
  iintro #H
  isplitr
  · iapply (rec_inv kv K (c, .inr (.inl ⟨n, h⟩))); iexact H
  · iapply (rec_reached kv K (c, .inr (.inl ⟨n, h⟩))); iexact H
theorem rec_recv (c : Dev nD) {n : ℕ} (h : n < 32) : (records kv K : sProp 𝕄) ⊢ iprop(cellInv ER (sched kv) (kR K c h) (rCell c n) ∗ reached ER (rCell c n) 0) := by
  iintro #H
  isplitr
  · iapply (rec_inv kv K (c, .inr (.inr ⟨n, h⟩))); iexact H
  · iapply (rec_reached kv K (c, .inr (.inr ⟨n, h⟩))); iexact H

/-! ## A window before, between and after -/

/-- What brings window `n` its values: the credit for its landing, or the values, in slot 0. -/
def arr (c : Dev nD) (n : ℕ) : sProp 𝕄 :=
  if 8 ≤ n then iprop(cred (tallyAt (rCell c n) () Nc)) else wPts c n fullShare (held kv c n)
/-- What sending window `n` on takes: the neighbour's window, and the two duties paid by it. -/
def out (c : Dev nD) (n : ℕ) : sProp 𝕄 :=
  if n < 24 then iprop(wAny (tgt n c) (n + 8) ∗ dutyTok ER (sCell c n) 0 false ∗ dutyTok ER (rCell (tgt n c) (n + 8)) 0 false) else iprop(emp)
/-- Where a device stands at window `n`'s two cells. -/
def posS (c : Dev nD) (n R : ℕ) : sProp 𝕄 := atPos ER (sCell c n) R ∅ 0
def posR (c : Dev nD) (n R : ℕ) : sProp 𝕄 := atPos ER (rCell c n) R ∅ 0
/-- Window `n`'s values on their way: the half share kept and the credit for the send; or all of it, where nothing is sent. -/
def kept (c : Dev nD) (n : ℕ) : sProp 𝕄 :=
  if n < 24 then iprop(wPts c n fullShare.right (held kv c n) ∗ cred (tallyAt (sCell c n) () Nc)) else wPts c n fullShare (held kv c n)

/-- The round window `n`'s receive cell ends at, and its send cell. -/
abbrev endR (n : ℕ) : ℕ := if 8 ≤ n then 1 else 0
abbrev endS (n : ℕ) : ℕ := if n < 24 then 1 else 0

/-- Window `n` before its turn; -/
def pre (c : Dev nD) (n : ℕ) : sProp 𝕄 := iprop(posS c n 0 ∗ posR c n 0 ∗ arr kv c n ∗ out c n)
/-- after it; -/
def mid (c : Dev nD) (n : ℕ) : sProp 𝕄 := iprop(posS c n 0 ∗ posR c n (endR n) ∗ kept kv c n)
/-- and when its send has been waited for. -/
def post (c : Dev nD) (n : ℕ) : sProp 𝕄 := iprop(posS c n (endS n) ∗ posR c n (endR n) ∗ wAny c n)

/-- What a device owes, at any record of waits. -/
def owing (c : Dev nD) (O : CellTallies nD τ sig Unit) : sProp 𝕄 := iprop(∃ W, owes (c : Thread nD τ) O W)

/-! ## One turn -/

/-- The wait of window `n`'s turn, where it has one. -/
theorem runs_wait (c : Dev nD) {n : ℕ} (hn : n < 32) (Q : PUnit → sProp 𝕄) :
    iprop(records kv K ∗ levAts L lv ∗ posR c n 0 ∗ arr kv c n ∗ owing c (due c n)
      ∗ ((posR c n (endR n) ∗ wPts c n fullShare (held kv c n) ∗ owing c (due c n)) -∗ Q ⟨⟩)) ⊢ runs c (if 8 ≤ n then recvOp n else pure ⟨⟩) Q := by
  unfold posR arr owing endR
  by_cases h : 8 ≤ n
  · rw [if_pos h, if_pos h, if_pos h]
    unfold recvOp Prog.lift
    iintro ⟨#HR, #Hlev, Hat, Hcr, ⟨%W, HO⟩, HQ⟩
    ihave #HI := (rec_recv kv K c hn) $$ HR
    icases HI with ⟨HI, -⟩
    iapply (Rounds.wp_wait_rest_token 𝒱₀ ER (sched kv) (c : Thread nD τ) none (κ := kR K c hn)
        (wpE_waitDma2_eq 𝒱₀ (c : Thread nD τ) none Set.univ) (Set.mem_univ _) () (O := due c n) (W := W) (R := 0) (m := 0) (T := ∅)
        (by rw [Nat.zero_add, expect_recv kv c h hn, credit_eq])) $$ [Hcr HO Hat]
    · isplitr; · iexact HI
      isplitl [Hcr]; · rw [credit_eq]; iexact Hcr
      isplitl [HO]; · iexact HO
      isplitr; · iapply (mayWait_recv c hn); iexact Hlev
      iexact Hat
    iintro ⟨HO, Hat, -, Hpay⟩
    ihave Hp := (Entails.of_eq (rest_recv kv c h hn)) $$ Hpay
    iapply le_wp_ret
    iapply HQ
    isplitl [Hat]; · iexact Hat
    isplitl [Hp]; · iexact Hp
    iexists _; iexact HO
  · rw [if_neg h, if_neg h, if_neg h]
    iintro ⟨-, -, Hat, Hw, HO, HQ⟩
    iapply le_wp_ret
    iapply HQ
    isplitl [Hat]; · iexact Hat
    isplitl [Hw] <;> iassumption

/-- What the send of a window leaves at the neighbour. -/
theorem landing (c : Dev nD) (n : ℕ) (X : Vec F S512x256 .bf16) (f) :
    ((win n).view.loc (c : Thread nD τ) ↦[(win n).view.set]{fullShare} (win n).view.write (Elt F) f X Finset.univ : sProp 𝕄) ⊢ wPts c n fullShare X :=
  pointsTo_rep_of_read (c : Thread nD τ) (win n) _ fullShare X (View.read_write_univ _ _)

/-- The send of window `n`'s turn, where it has one. -/
theorem runs_send (c : Dev nD) {n : ℕ} (hn : n < 32) (Q : PUnit → sProp 𝕄) :
    iprop(records kv K ∗ wPts c n fullShare (held kv c n) ∗ out c n ∗ owing c (due c n)
      ∗ ((kept kv c n ∗ owing c (due c (n + 1))) -∗ Q ⟨⟩)) ⊢ runs c (if n < 24 then sendOp c n else pure ⟨⟩) Q := by
  unfold out owing kept
  by_cases h : n < 24
  · rw [if_pos h, if_pos h, if_pos h]
    unfold sendOp Prog.lift wAny
    iintro ⟨#HR, Hw, ⟨⟨%f, Hd⟩, Ht, Ht'⟩, ⟨%W, HO⟩, HQ⟩
    ihave #HI := (rec_send kv K c hn) $$ HR
    ihave #HI' := (rec_recv kv K (tgt n c) (show n + 8 < 32 by omega)) $$ HR
    icases HI with ⟨HI, Hr⟩
    icases HI' with ⟨HI', Hr'⟩
    ihave Hw := ((wPts_halves c n _).1) $$ Hw
    icases Hw with ⟨Hl, Hk⟩
    iapply (Rounds.wp_send_pointsTo 𝒱₀ ER (sched kv) (c : Thread nD τ) none (c' := (tgt n c : Thread nD τ)) (src := win n) (dst := win (n + 8)) (sS := .dma (sendS n)) (sem := .dma (recvS (n + 8))) (κ₁ := kS K c hn) (κ₂ := kR K (tgt n c) (show n + 8 < 32 by omega))
        (q := fullShare.left) (fs := (win n).view.rep (held kv c n)) (r₁ := 0) (r₂ := 0) (d₁ := false) (d₂ := false) (fd := f)
        (by rw [duties_send kv c h]; exact Finset.mem_singleton_self _)
        (by rw [duties_recv kv (tgt n c) (by omega) (by omega)]; exact Finset.mem_singleton_self _)
        () () Nc (credit_eq (n + 8)) rfl rfl (due c (n + 1)) (due_succ c h) (W := W)
        (by rw [payload_send kv c hn]; exact BI.Entails.refl _)
        (by rw [payload_recv kv (tgt n c) (show n + 8 < 32 by omega), held_next, View.read_rep]; exact landing _ _ _ _)) $$ [Hl Hd HO Ht Ht']
    · isplitr; · iexact HI
      isplitr; · iexact HI'
      isplitl [Hl]; · unfold wPts; iexact Hl
      isplitl [Hd]; · iexact Hd
      isplitl [HO]; · iexact HO
      isplitl [Ht]; · iexact Ht
      isplitr; · iexact Hr
      isplitl [Ht']; · iexact Ht'
      iexact Hr'
    iintro ⟨Hcr, HO⟩
    iapply le_wp_ret
    iapply HQ
    isplitl [Hk Hcr]
    · isplitl [Hk] <;> iassumption
    iexists _; iexact HO
  · rw [if_neg h, if_neg h, if_neg h, due_end c (by omega), due_end c (by omega)]
    iintro ⟨-, Hw, -, HO, HQ⟩
    iapply le_wp_ret
    iapply HQ
    isplitl [Hw] <;> iassumption

/-- Window `n`'s turn. -/
theorem runs_tick (c : Dev nD) {n : ℕ} (hn : n < 32) (Q : PUnit → sProp 𝕄) :
    iprop(records kv K ∗ levAts L lv ∗ pre kv c n ∗ owing c (due c n) ∗ ((mid kv c n ∗ owing c (due c (n + 1))) -∗ Q ⟨⟩)) ⊢ runs c (tick c n) Q := by
  have e : (tick c n : PR F PUnit) = (if 8 ≤ n then recvOp n else pure ⟨⟩) >>= fun _ => if n < 24 then sendOp c n else pure ⟨⟩ := by
    unfold tick; by_cases h : 8 ≤ n
    · simp only [if_pos h]
    · simp only [if_neg h]; rfl
  rw [e]; unfold runs; rw [wp_bind]
  unfold pre mid
  iintro ⟨#HR, #Hlev, ⟨HpS, HpR, Ha, Ho⟩, HO, HQ⟩
  iapply (runs_wait kv K c hn)
  isplitr; · iexact HR
  isplitr; · iexact Hlev
  isplitl [HpR]; · iexact HpR
  isplitl [Ha]; · iexact Ha
  isplitl [HO]; · iexact HO
  iintro ⟨HpR, Hw, HO⟩
  iapply (runs_send kv K c hn)
  isplitr; · iexact HR
  isplitl [Hw]; · iexact Hw
  isplitl [Ho]; · iexact Ho
  isplitl [HO]; · iexact HO
  iintro ⟨Hk, HO⟩
  iapply HQ
  isplitr [HO]
  · isplitl [HpS]; · iexact HpS
    isplitl [HpR] <;> iassumption
  · iexact HO

/-- The wait for the send of window `n`. -/
theorem runs_drain (c : Dev nD) {n : ℕ} (hn : n < 24) (Q : PUnit → sProp 𝕄) :
    iprop(records kv K ∗ mid kv c n ∗ owing c 0 ∗ ((post c n ∗ owing c 0) -∗ Q ⟨⟩)) ⊢ runs c (drainOp n) Q := by
  unfold mid post kept owing posS endS
  rw [if_pos hn, if_pos hn]
  unfold drainOp Prog.lift
  iintro ⟨#HR, ⟨Hat, HpR, Hk, Hcr⟩, ⟨%W, HO⟩, HQ⟩
  ihave #HI := (rec_send kv K c (show n < 32 by omega)) $$ HR
  icases HI with ⟨HI, -⟩
  iapply (Rounds.wp_wait_rest_token 𝒱₀ ER (sched kv) (c : Thread nD τ) none (κ := kS K c (show n < 32 by omega))
      (wpE_waitDma2_eq 𝒱₀ (c : Thread nD τ) none Set.univ) (Set.mem_univ _) () (O := 0) (W := W) (R := 0) (m := 0) (T := ∅)
      (by rw [Nat.zero_add, expect_send kv c hn, credit_eq])) $$ [Hcr HO Hat]
  · isplitr; · iexact HI
    isplitl [Hcr]; · rw [credit_eq]; iexact Hcr
    isplitl [HO]; · iexact HO
    isplitr; · rw [MayWait_zero]; iempintro
    iexact Hat
  iintro ⟨HO, Hat, -, Hpay⟩
  ihave Hp := (Entails.of_eq (rest_send kv c hn)) $$ Hpay
  ihave Hw := ((wPts_halves c n _).2) $$ [Hp Hk]
  · isplitl [Hp] <;> iassumption
  iapply le_wp_ret
  iapply HQ
  isplitr [HO]
  · isplitl [Hat]; · iexact Hat
    isplitl [HpR]; · iexact HpR
    iapply (wPts_any c n _); iexact Hw
  iexists _; iexact HO

/-! ## All of them -/

/-- The windows when those before `N` have had their turns; -/
def windows (c : Dev nD) (N : ℕ) : sProp 𝕄 := bigSep Finset.univ fun n : Fin 32 => if N ≤ n.val then pre kv c n.val else mid kv c n.val
/-- and, all having had them, when the sends before `D` have been waited for. -/
def drained (c : Dev nD) (D : ℕ) : sProp 𝕄 := bigSep Finset.univ fun n : Fin 32 => if D ≤ n.val then mid kv c n.val else post c n.val

theorem windows_end (c : Dev nD) : (windows kv c 32 : sProp 𝕄) = drained kv c 0 := by
  unfold windows drained
  exact bigSep_congr fun n _ => by rw [if_neg (by have := n.isLt; omega), if_pos (Nat.zero_le _)]

/-- A family of windows in two states, those before `N` in the second: window `N` taken out is given back in the second. -/
theorem advance (Φ Ψ : ℕ → sProp 𝕄) {N : ℕ} (hN : N < 32) :
    (bigSep Finset.univ fun n : Fin 32 => if N ≤ n.val then Φ n.val else Ψ n.val)
      ⊢ iprop(Φ N ∗ (Ψ N -∗ bigSep Finset.univ fun n : Fin 32 => if N + 1 ≤ n.val then Φ n.val else Ψ n.val)) := by
  refine (bigSep_univ_update (Ψ := fun n : Fin 32 => if N + 1 ≤ n.val then Φ n.val else Ψ n.val) ⟨N, hN⟩ fun n hn => ?_).trans
    (Entails.of_eq (by dsimp only; rw [if_pos (Nat.le_refl N), if_neg (by omega : ¬N + 1 ≤ N)]))
  have : n.val ≠ N := fun e => hn (Fin.ext e)
  by_cases h : N ≤ n.val
  · rw [if_pos (by omega : N + 1 ≤ n.val), if_pos h]
  · rw [if_neg (by omega : ¬N + 1 ≤ n.val), if_neg h]

theorem windows_next (c : Dev nD) {N : ℕ} (hN : N < 32) : (windows kv c N : sProp 𝕄) ⊢ iprop(pre kv c N ∗ (mid kv c N -∗ windows kv c (N + 1))) := advance (pre kv c) (mid kv c) hN
theorem drained_next (c : Dev nD) {N : ℕ} (hN : N < 32) : (drained kv c N : sProp 𝕄) ⊢ iprop(mid kv c N ∗ (post c N -∗ drained kv c (N + 1))) := advance (mid kv c) (post c) hN

/-- The turn of the next window, in the whole state. -/
theorem runs_turn (c : Dev nD) {N : ℕ} (hN : N < 32) (Q : PUnit → sProp 𝕄) :
    iprop(records kv K ∗ levAts L lv ∗ windows kv c N ∗ owing c (due c N) ∗ ((windows kv c (N + 1) ∗ owing c (due c (N + 1))) -∗ Q ⟨⟩)) ⊢ runs c (tick c N) Q := by
  iintro ⟨#HR, #Hlev, HW, HO, HQ⟩
  ihave HW := (windows_next kv c hN) $$ HW
  icases HW with ⟨Hp, HW⟩
  iapply (runs_tick kv K c hN)
  isplitr; · iexact HR
  isplitr; · iexact Hlev
  isplitl [Hp]; · iexact Hp
  isplitl [HO]; · iexact HO
  iintro ⟨Hm, HO⟩
  iapply HQ
  isplitl [HW Hm]
  · iapply HW; iexact Hm
  · iexact HO

/-- Several turns. -/
theorem runs_ticks (c : Dev nD) (Q : PUnit → sProp 𝕄) : ∀ (k N : ℕ), N + k ≤ 32 →
    iprop(records kv K ∗ levAts L lv ∗ windows kv c N ∗ owing c (due c N) ∗ ((windows kv c (N + k) ∗ owing c (due c (N + k))) -∗ Q ⟨⟩)) ⊢ runs c (ticks c N k) Q
  | 0, N, _ => by
    iintro ⟨-, -, HW, HO, HQ⟩
    iapply le_wp_ret
    iapply HQ
    isplitl [HW] <;> iassumption
  | k + 1, N, h => by
    unfold ticks runs; rw [wp_bind]
    iintro ⟨#HR, #Hlev, HW, HO, HQ⟩
    iapply (runs_turn kv K c (show N < 32 by omega))
    isplitr; · iexact HR
    isplitr; · iexact Hlev
    isplitl [HW]; · iexact HW
    isplitl [HO]; · iexact HO
    iintro ⟨HW, HO⟩
    iapply (runs_ticks c Q k (N + 1) (by omega))
    isplitr; · iexact HR
    isplitr; · iexact Hlev
    isplitl [HW]; · iexact HW
    isplitl [HO]; · iexact HO
    rw [show N + 1 + k = N + (k + 1) by omega]
    iexact HQ

/-- Several sends waited for. -/
theorem runs_drains (c : Dev nD) (Q : PUnit → sProp 𝕄) : ∀ (k N : ℕ), N + k ≤ 24 →
    iprop(records kv K ∗ drained kv c N ∗ owing c 0 ∗ ((drained kv c (N + k) ∗ owing c 0) -∗ Q ⟨⟩)) ⊢ runs c (drains N k) Q
  | 0, N, _ => by
    iintro ⟨-, HW, HO, HQ⟩
    iapply le_wp_ret
    iapply HQ
    isplitl [HW] <;> iassumption
  | k + 1, N, h => by
    unfold drains runs; rw [wp_bind]
    iintro ⟨#HR, HW, HO, HQ⟩
    ihave HW := (drained_next kv c (show N < 32 by omega)) $$ HW
    icases HW with ⟨Hm, HW⟩
    iapply (runs_drain kv K c (show N < 24 by omega))
    isplitr; · iexact HR
    isplitl [Hm]; · iexact Hm
    isplitl [HO]; · iexact HO
    iintro ⟨Hp, HO⟩
    iapply (runs_drains c Q k (N + 1) (by omega))
    isplitr; · iexact HR
    isplitl [HW Hp]
    · iapply HW; iexact Hp
    isplitl [HO]; · iexact HO
    rw [show N + 1 + k = N + (k + 1) by omega]
    iexact HQ

/-! ## Taking windows in -/

/-- 512 keys and values, as windows hold them, taken in for both query tiles. -/
def stepW (q0 q1 : FVec F S1024x256 .bf16) (a : Acc F) (k v : Vec F S512x256 .bf16) : Acc F :=
  step q0 q1 a (shapeCast S1x512x256 k (shapeCasts_S1x512x256_S512x256).symm) (shapeCast S1x512x256 v (shapeCasts_S1x512x256_S512x256).symm)

theorem stepW_eq (q0 q1 : FVec F S1024x256 .bf16) (a : Acc F) (x y : Vec F S1x512x256 .bf16) (k v : Vec F S512x256 .bf16)
    (hk : shapeCast S512x256 x shapeCasts_S1x512x256_S512x256 = k) (hv : shapeCast S512x256 y shapeCasts_S1x512x256_S512x256 = v) :
    step q0 q1 a x y = stepW q0 q1 a k v := by
  subst hk hv; unfold stepW; rw [shapeCast_shapeCast, shapeCast_shapeCast]

/-- Steps `m`, `m + 1`, …, `k` of them. -/
def accs (q0 q1 : FVec F S1024x256 .bf16) (c : Dev nD) : ℕ → ℕ → Acc F → Acc F
  | _, 0, a => a
  | m, k + 1, a => accs q0 q1 c (m + 1) k (stepW q0 q1 a (held kv c (2 * m)) (held kv c (2 * m + 1)))

/-- A window that has had its turn can be read. -/
theorem mid_read (c : Dev nD) (n : ℕ) : (mid kv c n : sProp 𝕄) ⊢ iprop(∃ q, wPts c n q (held kv c n) ∗ (wPts c n q (held kv c n) -∗ mid kv c n)) := by
  unfold mid kept
  by_cases h : n < 24
  · rw [if_pos h]
    iintro ⟨H1, H2, Hw, H3⟩
    iexists _
    isplitl [Hw]; · iexact Hw
    iintro Hw
    isplitl [H1]; · iexact H1
    isplitl [H2]; · iexact H2
    isplitl [Hw] <;> iassumption
  · rw [if_neg h]
    iintro ⟨H1, H2, Hw⟩
    iexists _
    isplitl [Hw]; · iexact Hw
    iintro Hw
    isplitl [H1]; · iexact H1
    isplitl [H2] <;> iassumption

theorem windows_read (c : Dev nD) {N n : ℕ} (h : n < N) (hn : n < 32) :
    (windows kv c N : sProp 𝕄) ⊢ iprop(∃ q, wPts c n q (held kv c n) ∗ (wPts c n q (held kv c n) -∗ windows kv c N)) := by
  have e : (if N ≤ (⟨n, hn⟩ : Fin 32).val then pre kv c (⟨n, hn⟩ : Fin 32).val else mid kv c (⟨n, hn⟩ : Fin 32).val : sProp 𝕄) = mid kv c n := if_neg (by show ¬N ≤ n; omega)
  unfold windows
  refine (bigSep_univ_update (Ψ := fun n : Fin 32 => if N ≤ n.val then pre kv c n.val else mid kv c n.val) ⟨n, hn⟩ fun _ _ => rfl).trans ?_
  rw [e]
  iintro ⟨Hm, HW⟩
  ihave Hm := (mid_read kv c n) $$ Hm
  icases Hm with ⟨%q, Hw, Hm⟩
  iexists q
  isplitl [Hw]; · iexact Hw
  iintro Hw
  iapply HW
  iapply Hm
  iexact Hw

/-- A window read, in the whole state. -/
theorem runs_see (c : Dev nD) {N n : ℕ} (h : n < N) (hn : n < 32) (Q : Vec F S1x512x256 .bf16 → sProp 𝕄) :
    iprop(windows kv c N ∗ (∀ x, (⌜shapeCast S512x256 x shapeCasts_S1x512x256_S512x256 = held kv c n⌝ ∗ windows kv c N) -∗ Q x)) ⊢ runs c (loadOp n) Q := by
  iintro ⟨HW, HQ⟩
  ihave HW := (windows_read kv c h hn) $$ HW
  icases HW with ⟨%q, Hw, HW⟩
  iapply (runs_load c n q (held kv c n) Q)
  isplitl [Hw]; · iexact Hw
  iintro %x ⟨%hx, Hw⟩
  iapply HQ
  isplitr; · ipureintro; exact hx
  iapply HW; iexact Hw

/-- One step. -/
theorem runs_take (q0 q1 : FVec F S1024x256 .bf16) (c : Dev nD) {N m : ℕ} (h : 2 * m + 1 < N) (hm : m < 16) (a : Acc F) (Q : Acc F → sProp 𝕄) :
    iprop(windows kv c N ∗ (windows kv c N -∗ Q (stepW q0 q1 a (held kv c (2 * m)) (held kv c (2 * m + 1))))) ⊢ runs c (takeOp q0 q1 m a) Q := by
  unfold takeOp runs
  simp only [wp_bind]
  iintro ⟨HW, HQ⟩
  iapply (runs_see kv c (show 2 * m < N by omega) (by omega))
  isplitl [HW]; · iexact HW
  iintro %x ⟨%hx, HW⟩
  iapply (runs_see kv c h (by omega))
  isplitl [HW]; · iexact HW
  iintro %y ⟨%hy, HW⟩
  rw [stepW_eq q0 q1 a x y _ _ hx hy]
  iapply le_wp_ret
  iapply HQ; iexact HW

/-- Several steps on windows that are there. -/
theorem runs_takes (q0 q1 : FVec F S1024x256 .bf16) (c : Dev nD) {N : ℕ} (Q : Acc F → sProp 𝕄) : ∀ (k m : ℕ) (a : Acc F), 2 * (m + k) ≤ N → m + k ≤ 16 →
    iprop(windows kv c N ∗ (windows kv c N -∗ Q (accs kv q0 q1 c m k a))) ⊢ runs c (takes q0 q1 m k a) Q
  | 0, m, a, _, _ => by
    unfold accs
    iintro ⟨HW, HQ⟩
    iapply le_wp_ret
    iapply HQ; iexact HW
  | k + 1, m, a, h, h' => by
    unfold takes runs; rw [wp_bind]
    iintro ⟨HW, HQ⟩
    iapply (runs_take kv q0 q1 c (N := N) (m := m) (by omega) (by omega))
    isplitl [HW]; · iexact HW
    iintro HW
    iapply (runs_takes q0 q1 c (N := N) Q k (m + 1) _ (by omega) (by omega))
    isplitl [HW]; · iexact HW
    iexact HQ

/-- Several steps, each after the turns of its windows. -/
theorem runs_rounds (q0 q1 : FVec F S1024x256 .bf16) (c : Dev nD) (Q : Acc F → sProp 𝕄) : ∀ (k m : ℕ) (a : Acc F), m + k ≤ 16 →
    iprop(records kv K ∗ levAts L lv ∗ windows kv c (2 * m) ∗ owing c (due c (2 * m))
      ∗ ((windows kv c (2 * (m + k)) ∗ owing c (due c (2 * (m + k)))) -∗ Q (accs kv q0 q1 c m k a))) ⊢ runs c (rounds c q0 q1 m k a) Q
  | 0, m, a, _ => by
    unfold accs
    iintro ⟨-, -, HW, HO, HQ⟩
    iapply le_wp_ret
    iapply HQ
    isplitl [HW] <;> iassumption
  | k + 1, m, a, h => by
    unfold rounds runs; simp only [wp_bind]
    iintro ⟨#HR, #Hlev, HW, HO, HQ⟩
    iapply (runs_turn kv K c (show 2 * m < 32 by omega))
    isplitr; · iexact HR
    isplitr; · iexact Hlev
    isplitl [HW]; · iexact HW
    isplitl [HO]; · iexact HO
    iintro ⟨HW, HO⟩
    iapply (runs_turn kv K c (show 2 * m + 1 < 32 by omega))
    isplitr; · iexact HR
    isplitr; · iexact Hlev
    isplitl [HW]; · iexact HW
    isplitl [HO]; · iexact HO
    iintro ⟨HW, HO⟩
    iapply (runs_take kv q0 q1 c (N := 2 * m + 1 + 1) (m := m) (by omega) (by omega))
    isplitl [HW]; · iexact HW
    iintro HW
    iapply (runs_rounds q0 q1 c Q k (m + 1) _ (by omega))
    isplitr; · iexact HR
    isplitr; · iexact Hlev
    isplitl [HW]; · rw [show 2 * (m + 1) = 2 * m + 1 + 1 by omega]; iexact HW
    isplitl [HO]; · rw [show 2 * (m + 1) = 2 * m + 1 + 1 by omega]; iexact HO
    rw [show m + 1 + k = m + (k + 1) by omega]
    iexact HQ

/-! ## The end -/

/-- A device's own counters, closed: all at zero, and its windows whole. -/
theorem close_post (c : Dev nD) {n : ℕ} (hn : n < 32) :
    iprop(records kv K ∗ post c n) ⊢ (|={Set.univ}=> iprop(semVal (sCell c n) 0 ∗ semVal (rCell c n) 0 ∗ wAny c n) : sProp 𝕄) := by
  unfold post posS posR
  iintro ⟨#HR, HS, HV, Hw⟩
  ihave #HI := (rec_send kv K c hn) $$ HR
  ihave #HI' := (rec_recv kv K c hn) $$ HR
  icases HI with ⟨HI, -⟩
  icases HI' with ⟨HI', -⟩
  imod (Rounds.cell_close ER (sched kv) (g := sCell c n) (Set.mem_univ (kS K c hn)) (fun h => h) (R := endS n) (fun r hr => by
    by_cases h : n < 24
    · exact duties_later kv _ r (by rw [show endS n = 1 from if_pos h] at hr; exact hr)
    · exact duties_send_idle kv c (by omega) hn r)) $$ [HS] with HzS
  · isplitr; · iexact HI
    iexact HS
  imod (Rounds.cell_close ER (sched kv) (g := rCell c n) (Set.mem_univ (kR K c hn)) (fun h => h) (R := endR n) (fun r hr => by
    by_cases h : 8 ≤ n
    · exact duties_later kv _ r (by rw [show endR n = 1 from if_pos h] at hr; exact hr)
    · exact duties_recv_idle kv c (by omega) r)) $$ [HV] with HzV
  · isplitr; · iexact HI'
    iexact HV
  imodintro
  isplitl [HzS]; · iexact HzS
  isplitl [HzV] <;> iassumption

end Cert.Ring

end
-- ==== Proof.Body.lean ====
/-
# One device's run of the kernel

From what a device starts with — its records, its windows at any values, its credits and what it owes — to what it ends
with: the result stored, every window its own again and every counter back at zero.
-/
module

public import proofs.«01_k».proof.Proof.Steps

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (qs : Dev nD → Vec F S2048x256 .bf16) (kv : Fin 2 → Dev nD → Vec F S2048x256 .bf16) (K : Dev nD × Ck → ℕ)

/-! ## Halves of a device's rows -/

/-- The upper or the lower 1024 rows. -/
def half (x : Vec F S2048x256 .bf16) (h : Fin 2) : Vec F S1024x256 .bf16 :=
  fun i => x (ix2 (⟨h.val * 1024 + (i 0).val, by have h' : (i 0).val < 1024 := (i 0).isLt; have := h.isLt; omega⟩ : Fin 2048) (i 1))

theorem top_emb (i : S1024x256.Idx) : rTop.emb i = ix2 (⟨(0 : Fin 2).val * 1024 + (i 0).val, by have h' : (i 0).val < 1024 := (i 0).isLt; show 0 * 1024 + _ < _; omega⟩ : Fin 2048) (i 1) := by
  refine funext fun a => Fin.ext ?_
  fin_cases a
  · show 0 + 1 * (i 0).val = 0 * 1024 + (i 0).val; omega
  · show 0 + 1 * (i 1).val = (i 1).val; omega
theorem bot_emb (i : S1024x256.Idx) : rBot.emb i = ix2 (⟨(1 : Fin 2).val * 1024 + (i 0).val, by have h' : (i 0).val < 1024 := (i 0).isLt; show 1 * 1024 + _ < _; omega⟩ : Fin 2048) (i 1) := by
  refine funext fun a => Fin.ext ?_
  fin_cases a
  · show 1024 + 1 * (i 0).val = 1 * 1024 + (i 0).val; omega
  · show 0 + 1 * (i 1).val = (i 1).val; omega

/-- What a window of slot 0 is filled with is what it is to hold. -/
theorem part_held (c : Dev nD) (b : Fin 2) (h j : Fin 2) {n : ℕ} (hn : n = 4 * j.val + (2 * h.val + b.val)) : part (half (kv b c) h) j = held kv c n := by
  have hb := b.isLt; have hj := j.isLt; have hh := h.isLt
  funext i
  have h0 : (i 0).val < 512 := (i 0).isLt
  have e1 : (⟨n % 2, Nat.mod_lt _ (by decide)⟩ : Fin 2) = b := Fin.ext (by show n % 2 = b.val; omega)
  have e2 : home n c = c := by unfold home; rw [show n / 8 = 0 by omega]; rfl
  unfold held
  rw [e1, e2]
  refine congrArg (kv b c) (congrArg (fun r => ix2 r (i 1)) (Fin.ext ?_))
  show h.val * 1024 + (j.val * 512 + (i 0).val) = n / 4 % 2 * 512 + (if n % 4 < 2 then 0 else 1024) + (i 0).val
  split <;> omega

/-- An operand's staging buffer at contents. -/
abbrev stg (c : Dev nD) (b : Ref sig .tc) (X : b.ty.Contents (Elt F)) : sProp 𝕄 := (((c : Thread nD τ).loc b) ↦{fullShare} X)

theorem runs_loadTop (c : Dev nD) (src : Memref sig .tc .vmem S2048x256 .bf16) (f : Buf (Elt F) (src.view.loc (c : Thread nD τ))) (Q : Vec F S1024x256 .bf16 → sProp 𝕄) :
    iprop((src.view.loc (c : Thread nD τ) ↦{fullShare} f) ∗ ((src.view.loc (c : Thread nD τ) ↦{fullShare} f) -∗ Q (half (src.view.read (Elt F) f) 0))) ⊢ runs c (loadTop src) Q := by
  unfold loadTop Prog.lift
  iintro ⟨H, HQ⟩
  iapply (wp_load 𝒱₀ (c : Thread nD τ) none Set.univ (m := src) (Finset.subset_univ _)) $$ H; iintro H
  iapply le_wp_ret
  rw [show src.view.readAt (Elt F) rTop.toLoadRect f = half (src.view.read (Elt F) f) 0 from funext fun i => congrArg (src.view.read (Elt F) f) (top_emb i)]
  iapply HQ; iexact H

theorem runs_loadBot (c : Dev nD) (src : Memref sig .tc .vmem S2048x256 .bf16) (f : Buf (Elt F) (src.view.loc (c : Thread nD τ))) (Q : Vec F S1024x256 .bf16 → sProp 𝕄) :
    iprop((src.view.loc (c : Thread nD τ) ↦{fullShare} f) ∗ ((src.view.loc (c : Thread nD τ) ↦{fullShare} f) -∗ Q (half (src.view.read (Elt F) f) 1))) ⊢ runs c (loadBot src) Q := by
  unfold loadBot Prog.lift
  iintro ⟨H, HQ⟩
  iapply (wp_load 𝒱₀ (c : Thread nD τ) none Set.univ (m := src) (Finset.subset_univ _)) $$ H; iintro H
  iapply le_wp_ret
  rw [show src.view.readAt (Elt F) rBot.toLoadRect f = half (src.view.read (Elt F) f) 1 from funext fun i => congrArg (src.view.read (Elt F) f) (bot_emb i)]
  iapply HQ; iexact H

/-! ## The result stored -/

/-- Two halves one over the other. -/
def stack (x y : FVec F S1024x256 .f32) : FVec F S2048x256 .f32 :=
  fun i => if h : (i 0).val < 1024 then x (ix2 (⟨(i 0).val, h⟩ : Fin 1024) (i 1))
    else y (ix2 (⟨(i 0).val - 1024, by have h' : (i 0).val < 2048 := (i 0).isLt; omega⟩ : Fin 1024) (i 1))

theorem stack_top (x y : FVec F S1024x256 .f32) (i : S1024x256.Idx) : stack x y (rTop.emb i) = x i := by
  have h' : (i 0).val < 1024 := (i 0).isLt
  rw [top_emb]; unfold stack
  refine (dif_pos (show 0 * 1024 + (i 0).val < 1024 by omega)).trans ?_
  conv_rhs => rw [eq_ix2 i]
  exact congrArg x (congrArg (fun r => ix2 r (i 1)) (Fin.ext (by show 0 * 1024 + (i 0).val = (i 0).val; omega)))
theorem stack_bot (x y : FVec F S1024x256 .f32) (i : S1024x256.Idx) : stack x y (rBot.emb i) = y i := by
  rw [bot_emb]; unfold stack
  refine (dif_neg (show ¬(1 * 1024 + (i 0).val < 1024) by omega)).trans ?_
  conv_rhs => rw [eq_ix2 i]
  exact congrArg y (congrArg (fun r => ix2 r (i 1)) (Fin.ext (by show 1 * 1024 + (i 0).val - 1024 = (i 0).val; omega)))

/-- Every row lies in the upper or the lower half. -/
theorem rows_cover (i : S2048x256.Idx) : (∃ j, i = rTop.emb j) ∨ ∃ j, i = rBot.emb j := by
  have h0 : (i 0).val < 2048 := (i 0).isLt
  by_cases h : (i 0).val < 1024
  · refine .inl ⟨ix2 (⟨(i 0).val, h⟩ : Fin 1024) (i 1), ?_⟩
    rw [top_emb]; conv_lhs => rw [eq_ix2 i]
    exact congrArg (fun r => ix2 r (i 1)) (Fin.ext (by show (i 0).val = 0 * 1024 + (i 0).val; omega))
  · refine .inr ⟨ix2 (⟨(i 0).val - 1024, by omega⟩ : Fin 1024) (i 1), ?_⟩
    rw [bot_emb]; conv_lhs => rw [eq_ix2 i]
    exact congrArg (fun r => ix2 r (i 1)) (Fin.ext (by show (i 0).val = 1 * 1024 + ((i 0).val - 1024); omega))

/-- The two stores leave the two halves. -/
theorem stored (f : (cc0_stg3_0 : Ref sig .tc).ty.Contents (Elt F)) (x y : FVec F S1024x256 .f32) :
    (oM.access rBot).write (Elt F) ((oM.access rTop).write (Elt F) f x Finset.univ) y Finset.univ = stack x y := by
  funext i
  have key : oM.view.read (Elt F) ((oM.access rBot).write (Elt F) ((oM.access rTop).write (Elt F) f x Finset.univ) y Finset.univ) i = stack x y i := by
    rcases rows_cover i with ⟨j, rfl⟩ | ⟨j, rfl⟩
    · rw [stack_top]
      refine (View.read_slice_write_of_not_mem (v := oM.view) rBot _ y Finset.univ ?_).trans (View.read_slice_write_emb (Val := Elt F) (v := oM.view) rTop f x (Finset.mem_univ j))
      intro h
      obtain ⟨j', -, e⟩ := Finset.mem_map.mp h
      rw [bot_emb, top_emb] at e
      have e0 := congrArg (fun i : S2048x256.Idx => (i 0).val) e
      have e0' : 1 * 1024 + (j' 0).val = 0 * 1024 + (j 0).val := e0
      have h' : (j 0).val < 1024 := (j 0).isLt
      omega
    · rw [stack_bot]
      exact View.read_slice_write_emb (Val := Elt F) (v := oM.view) rBot _ y (Finset.mem_univ j)
  exact key

/-- Device `c`'s sums at the end, and its result. -/
def sums (c : Dev nD) : Acc F := accs kv (half (qs c) 0) (half (qs c) 1) c 4 12 (accs kv (half (qs c) 0) (half (qs c) 1) c 0 4 acc₀)
def resultOf (c : Dev nD) : FVec F S2048x256 .f32 := stack (quot (sums qs kv c).1) (quot (sums qs kv c).2)

/-! ## The barrier -/

/-- What a device takes on round the exchange for window `n`, before it has values: where it stands and the duties it pays. -/
def lin (c : Dev nD) (n : ℕ) : sProp 𝕄 :=
  iprop((posS c n 0 ∗ posR c n 0) ∗ if n < 24 then iprop(dutyTok ER (sCell c n) 0 false ∗ dutyTok ER (rCell (tgt n c) (n + 8)) 0 false) else iprop(emp))

/-- What device `c` starts from: the records; its place at the barrier and the two signals it owes; its windows' share of the exchange. -/
def ghost (c : Dev nD) : sProp 𝕄 :=
  iprop(records kv K ∗ atPos ER (barCell c) 0 ∅ 0 ∗ (dutyTok ER (barCell (prv c)) 0 true ∗ dutyTok ER (barCell (nxt c)) 0 false)
    ∗ bigSep Finset.univ fun n : Fin 32 => lin c n.val)

/-- Thirty-two windows are the first eight and the others. -/
theorem split8 (Φ : ℕ → sProp 𝕄) : (bigSep Finset.univ fun n : Fin 32 => Φ n.val) = iprop((bigSep Finset.univ fun n : Fin 8 => Φ n.val) ∗ bigSep Finset.univ fun n : Fin 24 => Φ (n.val + 8)) := by
  rw [bigSep_univ_equiv (finSumFinEquiv : Fin 8 ⊕ Fin 24 ≃ Fin 32), bigSep_univ_sum]
  exact congrArg (fun P => iprop((bigSep Finset.univ fun n : Fin 8 => Φ n.val) ∗ P)) (bigSep_congr fun n _ => congrArg Φ (Nat.add_comm 8 n.val))
/-- Thirty-two windows are the first twenty-four and the others. -/
theorem split24 (Φ : ℕ → sProp 𝕄) : (bigSep Finset.univ fun n : Fin 32 => Φ n.val) = iprop((bigSep Finset.univ fun n : Fin 24 => Φ n.val) ∗ bigSep Finset.univ fun n : Fin 8 => Φ (n.val + 24)) := by
  rw [bigSep_univ_equiv (finSumFinEquiv : Fin 24 ⊕ Fin 8 ≃ Fin 32), bigSep_univ_sum]
  exact congrArg (fun P => iprop((bigSep Finset.univ fun n : Fin 24 => Φ n.val) ∗ P)) (bigSep_congr fun n _ => congrArg Φ (Nat.add_comm 24 n.val))

/-- The windows a device lends are the ones its two neighbours send into. -/
theorem lend (c : Dev nD) : (bigSep Finset.univ fun n : Fin 24 => (wAny c (n.val + 8) : sProp 𝕄)) = iprop(barPay (prv c) true ∗ barPay (nxt c) false) := by
  rw [bigSep_filter_split Finset.univ (fun n : Fin 24 => decide (n.val % 4 < 2) = true)]
  unfold barPay
  have e1 : bigSep (Finset.univ.filter fun n : Fin 24 => decide (n.val % 4 < 2) = true) (fun n => (wAny (tgt n.val (prv c)) (n.val + 8) : sProp 𝕄))
      = bigSep (Finset.univ.filter fun n : Fin 24 => decide (n.val % 4 < 2) = true) (fun n => wAny c (n.val + 8)) :=
    bigSep_congr fun n hn => by rw [tgt_eq, if_pos (of_decide_eq_true (Finset.mem_filter.mp hn).2), nxt_prv]
  have e2 : bigSep (Finset.univ.filter fun n : Fin 24 => decide (n.val % 4 < 2) = false) (fun n => (wAny (tgt n.val (nxt c)) (n.val + 8) : sProp 𝕄))
      = bigSep (Finset.univ.filter fun n : Fin 24 => ¬(decide (n.val % 4 < 2) = true)) (fun n => wAny c (n.val + 8)) := by
    rw [Finset.filter_congr (q := fun n : Fin 24 => ¬(decide (n.val % 4 < 2) = true)) fun n _ => by rw [Bool.not_eq_true]]
    exact bigSep_congr fun n hn => by rw [tgt_eq, if_neg (fun h => (Finset.mem_filter.mp hn).2 (decide_eq_true h)), prv_nxt]
  rw [e1, e2]; rfl

theorem payload_bar (c : Dev nD) (d : Bool) : (sched kv).payload (barCell c) 0 d = barPay c d := rfl

/-- A signal to a neighbour. -/
theorem runs_signal (c e : Dev nD) (d : Bool) (n : Dev nD) (hn : n = e) (O O' : CellTallies nD τ sig Unit) (hO : O' = O + tallyAt (barCell e) () 1) (Q : PUnit → sProp 𝕄) :
    iprop(records kv K ∗ owing c O' ∗ dutyTok ER (barCell e) 0 d ∗ barPay e d ∗ (owing c O -∗ Q ⟨⟩)) ⊢ runs c (semSignalWord n barS 1#32) Q := by
  subst hn
  unfold owing semSignalWord
  iintro ⟨#HR, ⟨%W, HO⟩, Ht, Hp, HQ⟩
  ihave #HI := (rec_inv kv K (n, .inl ())) $$ HR
  ihave #Hr := (rec_reached kv K (n, .inl ())) $$ HR
  iapply (Rounds.wp_signal 𝒱₀ ER (sched kv) (c : Thread nD τ) none (dst := (n : Thread nD τ)) (κ := K (n, .inl ())) (r := 0) (d := d)
      (by rw [duties_bar]; exact Finset.mem_univ _) (show _ = 1 from rfl) () O hO) $$ [HO Ht Hp]
  · isplitr; · iexact HI
    isplitl [HO]; · iexact HO
    isplitl [Ht]; · iexact Ht
    isplitl [Hp]; · rw [payload_bar]; iexact Hp
    iexact Hr
  iintro HO
  iapply le_wp_ret
  iapply HQ
  iexists _; iexact HO

/-- The wait for both neighbours: the windows sent into. -/
theorem runs_barrier (c : Dev nD) (Q : PUnit → sProp 𝕄) :
    iprop(records kv K ∗ levAts L lv ∗ owing c (due c 0) ∗ cred (tallyAt (barCell c) () 2) ∗ atPos ER (barCell c) 0 ∅ 0
      ∗ ((owing c (due c 0) ∗ atPos ER (barCell c) 1 ∅ 0 ∗ bigSep Finset.univ fun n : Fin 24 => wAny (tgt n.val c) (n.val + 8)) -∗ Q ⟨⟩)) ⊢ runs c (semWaitWord barS 2#32) Q := by
  unfold owing semWaitWord
  iintro ⟨#HR, #Hlev, ⟨%W, HO⟩, Hc, Hat, HQ⟩
  ihave #HI := (rec_inv kv K (c, .inl ())) $$ HR
  iapply (Rounds.wp_wait_rest_token 𝒱₀ ER (sched kv) (c : Thread nD τ) none (κ := K (c, .inl ()))
      (wpE_semWait_eq 𝒱₀ (c : Thread nD τ) none Set.univ) (Set.mem_univ _) () (O := due c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar kv c)) $$ Hpay
  iapply le_wp_ret
  iapply HQ
  isplitl [HO]; · iexists _; iexact HO
  isplitl [Hat] <;> iassumption

/-! ## The windows put together -/

/-- Nothing, eight times. -/
theorem nothing8 : (bigSep Finset.univ fun _ : Fin 8 => (iprop(emp) : sProp 𝕄)) = iprop(emp) := bigSep_emp_const _

/-- A device's shares of the exchange, window by window, are its places and the duties it pays. -/
theorem lins_eq (c : Dev nD) : (bigSep Finset.univ fun n : Fin 32 => (lin c n.val : sProp 𝕄))
    = iprop((bigSep Finset.univ fun n : Fin 32 => iprop(posS c n.val 0 ∗ posR c n.val 0))
      ∗ bigSep Finset.univ fun n : Fin 24 => iprop(dutyTok ER (sCell c n.val) 0 false ∗ dutyTok ER (rCell (tgt n.val c) (n.val + 8)) 0 false)) := by
  unfold lin
  rw [bigSep_sep', split24 (fun n => if n < 24 then iprop(dutyTok ER (sCell c n) 0 false ∗ dutyTok ER (rCell (tgt n c) (n + 8)) 0 false) else iprop(emp)),
    bigSep_congr (s := (Finset.univ : Finset (Fin 24))) fun n _ => if_pos n.isLt,
    bigSep_congr (s := (Finset.univ : Finset (Fin 8))) fun n _ => if_neg (show ¬n.val + 24 < 24 by omega), nothing8]
  exact congrArg _ (BI.Entails.antisymm (sep_emp (PROP := sProp 𝕄)).1 (sep_emp (PROP := sProp 𝕄)).2)

/-- Where the exchange starts: every window before its turn. -/
theorem gather (c : Dev nD) :
    iprop((bigSep Finset.univ fun n : Fin 32 => lin c n.val) ∗ (bigSep Finset.univ fun n : Fin 8 => wPts c n.val fullShare (held kv c n.val))
      ∗ (bigSep Finset.univ fun n : Fin 24 => iprop(cred (tallyAt (rCell c (n.val + 8)) () Nc))) ∗ bigSep Finset.univ fun n : Fin 24 => wAny (tgt n.val c) (n.val + 8))
      ⊢ (windows kv c 0 : sProp 𝕄) := by
  have e1 : (bigSep Finset.univ fun n : Fin 32 => (arr kv c n.val : sProp 𝕄))
      = iprop((bigSep Finset.univ fun n : Fin 8 => wPts c n.val fullShare (held kv c n.val)) ∗ bigSep Finset.univ fun n : Fin 24 => iprop(cred (tallyAt (rCell c (n.val + 8)) () Nc))) := by
    rw [split8 (arr kv c)]
    unfold arr
    rw [bigSep_congr (s := (Finset.univ : Finset (Fin 8))) fun n _ => if_neg (show ¬8 ≤ n.val by have := n.isLt; omega),
      bigSep_congr (s := (Finset.univ : Finset (Fin 24))) fun n _ => if_pos (show 8 ≤ n.val + 8 by omega)]
  have e3 : (bigSep Finset.univ fun n : Fin 32 => (out c n.val : sProp 𝕄))
      = iprop((bigSep Finset.univ fun n : Fin 24 => wAny (tgt n.val c) (n.val + 8))
        ∗ bigSep Finset.univ fun n : Fin 24 => iprop(dutyTok ER (sCell c n.val) 0 false ∗ dutyTok ER (rCell (tgt n.val c) (n.val + 8)) 0 false)) := by
    unfold out
    rw [split24 (fun n => if n < 24 then iprop(wAny (tgt n c) (n + 8) ∗ dutyTok ER (sCell c n) 0 false ∗ dutyTok ER (rCell (tgt n c) (n + 8)) 0 false) else iprop(emp)),
      bigSep_congr (s := (Finset.univ : Finset (Fin 24))) fun n _ => if_pos n.isLt,
      bigSep_congr (s := (Finset.univ : Finset (Fin 8))) fun n _ => if_neg (show ¬n.val + 24 < 24 by omega), nothing8, ← bigSep_sep']
    exact BI.Entails.antisymm (sep_emp (PROP := sProp 𝕄)).1 (sep_emp (PROP := sProp 𝕄)).2
  have e4 : (windows kv c 0 : sProp 𝕄) = iprop((bigSep Finset.univ fun n : Fin 32 => iprop(posS c n.val 0 ∗ posR c n.val 0))
      ∗ (bigSep Finset.univ fun n : Fin 32 => arr kv c n.val) ∗ bigSep Finset.univ fun n : Fin 32 => out c n.val) := by
    unfold windows pre
    rw [bigSep_congr (s := (Finset.univ : Finset (Fin 32))) fun n _ => if_pos (Nat.zero_le n.val)]
    simp only [bigSep_sep']
    exact BI.Entails.antisymm (sep_assoc (PROP := sProp 𝕄)).2 (sep_assoc (PROP := sProp 𝕄)).1
  rw [e4, e1, lins_eq c, e3]
  iintro ⟨⟨H1, H2⟩, H3, H4, H5⟩
  isplitl [H1]; · iexact H1
  isplitl [H3 H4]
  · isplitl [H3] <;> iassumption
  isplitl [H5] <;> iassumption

/-- Where it ends: every counter at zero, every window the device's own. -/
theorem finish (c : Dev nD) :
    iprop(records kv K ∗ drained kv c 24) ⊢ (|={Set.univ}=> bigSep Finset.univ fun n : Fin 32 => iprop(semVal (sCell c n.val) 0 ∗ semVal (rCell c n.val) 0 ∗ wAny c n.val) : sProp 𝕄) := by
  have e : ∀ n : Fin 32, (if 24 ≤ n.val then mid kv c n.val else post c n.val : sProp 𝕄) ⊢ post c n.val := fun n => by
    by_cases h : 24 ≤ n.val
    · rw [if_pos h]
      unfold mid post kept endS
      rw [if_neg (by omega : ¬n.val < 24), if_neg (by omega : ¬n.val < 24)]
      iintro ⟨H1, H2, Hw⟩
      isplitl [H1]; · iexact H1
      isplitl [H2]; · iexact H2
      iapply (wPts_any c n.val _); iexact Hw
    · rw [if_neg h]
  unfold drained
  refine (sep_mono_left (BI.bigSep_of_persistent (Finset.univ : Finset (Fin 32)) (records kv K))).trans ?_
  rw [← bigSep_sep']
  exact (bigSep_mono fun n _ => (sep_mono_right (e n)).trans (close_post kv K c n.isLt)).trans (bigSep_fupd _ _)

/-! ## The run -/

/-- The operands a device reads, staged. -/
def ins (c : Dev nD) : sProp 𝕄 := iprop(stg c cc0_stg0_0 (qs c) ∗ stg c cc0_stg1_0 (kv 0 c) ∗ stg c cc0_stg2_0 (kv 1 c))

def bodyPre (c : Dev nD) : sProp 𝕄 :=
  iprop(ghost kv K c ∗ (cred (tallyAt (barCell c) () 2) ∗ (bigSep Finset.univ fun n : Fin 24 => iprop(cred (tallyAt (rCell c (n.val + 8)) () Nc))) ∗ levAts L lv)
    ∗ (bigSep Finset.univ fun n : Fin 32 => wAny c n.val) ∗ owing c (O₀ c) ∗ ins qs kv c ∗ ∃ f, stg c cc0_stg3_0 f)

/-- What is left of the cells and the windows when a device is done. -/
def Φ₁ (c : Dev nD) : sProp 𝕄 :=
  iprop((bigSep Finset.univ fun n : Fin 32 => iprop(semVal (sCell c n.val) 0 ∗ semVal (rCell c n.val) 0 ∗ wAny c n.val)) ∗ semVal (barCell c) 0)

def bodyPost (c : Dev nD) : sProp 𝕄 := iprop(Φ₁ c ∗ owing c 0 ∗ ins qs kv c ∗ stg c cc0_stg3_0 (resultOf qs kv c))

theorem eight (Φ : ℕ → sProp 𝕄) : (bigSep Finset.univ fun n : Fin 8 => Φ n.val) = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) _

/-- Filling slot 0 of the buffer for keys (`b = 0`) or values (`b = 1`) of the upper (`h = 0`) or lower rows. -/
theorem runs_fill_held (c : Dev nD) (b h : Fin 2) (bb : Fin 4) (hbb : bb.val = 2 * h.val + b.val) {n n' : ℕ} (hn : n = bb.val) (hn' : n' = bb.val + 4) (Q : PUnit → sProp 𝕄) :
    iprop(wAny c n ∗ wAny c n' ∗ ((wPts c n fullShare (held kv c n) ∗ wPts c n' fullShare (held kv c n')) -∗ Q ⟨⟩)) ⊢ runs c (fillOp bb (half (kv b c) h)) Q := by
  refine BI.Entails.trans ?_ (runs_fill c bb hn hn' (half (kv b c) h) Q)
  rw [part_held kv c b h 0 (n := n) (by rw [hn, hbb]; show _ = 4 * 0 + _; omega), part_held kv c b h 1 (n := n') (by rw [hn', hbb]; show _ = 4 * 1 + _; omega)]
  exact BI.Entails.refl _

set_option maxHeartbeats 800000 in
/-- The kernel on device `c`. -/
theorem sound_body (c : Dev nD) (Q : PUnit → sProp 𝕄) : iprop(bodyPre qs kv K c ∗ (bodyPost qs kv c -∗ Q ⟨⟩)) ⊢ runs c body Q := by
  unfold body runs
  simp only [wp_bind]
  simp only [Prog.lift, wp_deviceId, shapeCast_self]
  unfold bodyPre ghost ins
  iintro ⟨⟨⟨#HR, HatB, ⟨HtP, HtN⟩, Hlin⟩, ⟨HcB, HcR, #Hlev⟩, HW, HO, ⟨Hq, Hk, Hv⟩, ⟨%f, Ho⟩⟩, HQ⟩
  iapply le_wp_ret
  -- the windows lent to the neighbours, and the two signals
  ihave HW := (Entails.of_eq (split8 (fun n => (wAny c n : sProp 𝕄)))) $$ HW
  icases HW with ⟨HW, Hlent⟩
  ihave Hlent := (Entails.of_eq (lend c)) $$ Hlent
  icases Hlent with ⟨HpP, HpN⟩
  iapply (runs_signal kv K c (prv c) true _ (dev1_eq c) (O₁ c) (O₀ c) rfl)
  isplitr; · iexact HR
  isplitl [HO]; · iexact HO
  isplitl [HtP]; · iexact HtP
  isplitl [HpP]; · iexact HpP
  iintro HO
  iapply (runs_signal kv K c (nxt c) false _ (dev2_eq c) (due c 0) (O₁ c) rfl)
  isplitr; · iexact HR
  isplitl [HO]; · iexact HO
  isplitl [HtN]; · iexact HtN
  isplitl [HpN]; · iexact HpN
  iintro HO
  -- the queries read, slot 0 filled
  ihave HW := (Entails.of_eq (eight (fun n => (wAny c n : sProp 𝕄)))) $$ HW
  icases HW with ⟨H0, H1, H2, H3, H4, H5, H6, H7⟩
  iapply (runs_loadTop c qM (qs c)); isplitl [Hq]; · iexact Hq
  iintro Hq
  iapply (runs_loadBot c qM (qs c)); isplitl [Hq]; · iexact Hq
  iintro Hq
  iapply (runs_loadTop c kM (kv 0 c)); isplitl [Hk]; · iexact Hk
  iintro Hk
  iapply (runs_fill_held kv c 0 0 0 rfl (n := 0) (n' := 4) rfl rfl)
  isplitl [H0]; · iexact H0
  isplitl [H4]; · iexact H4
  iintro ⟨H0, H4⟩
  iapply (runs_loadTop c vM (kv 1 c)); isplitl [Hv]; · iexact Hv
  iintro Hv
  iapply (runs_fill_held kv c 1 0 1 rfl (n := 1) (n' := 5) rfl rfl)
  isplitl [H1]; · iexact H1
  isplitl [H5]; · iexact H5
  iintro ⟨H1, H5⟩
  iapply (runs_loadBot c kM (kv 0 c)); isplitl [Hk]; · iexact Hk
  iintro Hk
  iapply (runs_fill_held kv c 0 1 2 rfl (n := 2) (n' := 6) rfl rfl)
  isplitl [H2]; · iexact H2
  isplitl [H6]; · iexact H6
  iintro ⟨H2, H6⟩
  iapply (runs_loadBot c vM (kv 1 c)); isplitl [Hv]; · iexact Hv
  iintro Hv
  iapply (runs_fill_held kv c 1 1 3 rfl (n := 3) (n' := 7) rfl rfl)
  isplitl [H3]; · iexact H3
  isplitl [H7]; · iexact H7
  iintro ⟨H3, H7⟩
  -- the barrier, and the exchange
  iapply (runs_barrier kv K c)
  isplitr; · iexact HR
  isplitr; · iexact Hlev
  isplitl [HO]; · iexact HO
  isplitl [HcB]; · iexact HcB
  isplitl [HatB]; · iexact HatB
  iintro ⟨HO, HatB, Hn⟩
  ihave HW := (gather kv c) $$ [Hlin H0 H1 H2 H3 H4 H5 H6 H7 HcR Hn]
  · isplitl [Hlin]; · iexact Hlin
    isplitl [H0 H1 H2 H3 H4 H5 H6 H7]
    · rw [eight (fun n => (wPts c n fullShare (held kv c n) : sProp 𝕄))]
      isplitl [H0]; · iexact H0
      isplitl [H1]; · iexact H1
      isplitl [H2]; · iexact H2
      isplitl [H3]; · iexact H3
      isplitl [H4]; · iexact H4
      isplitl [H5]; · iexact H5
      isplitl [H6] <;> iassumption
    isplitl [HcR] <;> iassumption
  iapply (runs_ticks kv K c _ 8 0 (by decide))
  isplitr; · iexact HR
  isplitr; · iexact Hlev
  isplitl [HW]; · iexact HW
  isplitl [HO]; · iexact HO
  iintro ⟨HW, HO⟩
  iapply (runs_takes kv _ _ c (N := 8) _ 4 0 _ (by decide) (by decide))
  isplitl [HW]; · iexact HW
  iintro HW
  iapply (runs_rounds kv K _ _ c _ 12 4 _ (by decide))
  isplitr; · iexact HR
  isplitr; · iexact Hlev
  isplitl [HW]; · iexact HW
  isplitl [HO]; · iexact HO
  iintro ⟨HW, HO⟩
  -- the result
  unfold storeTop storeBot Prog.lift
  simp only [Prog.bind_op, Prog.bind_ret]
  iapply (wp_load 𝒱₀ (c : Thread nD τ) none Set.univ (m := oM) (Finset.subset_univ _)) $$ Ho; iintro Ho
  iapply (wp_store 𝒱₀ (c : Thread nD τ) none Set.univ (m := oM) (r := rTop) (Mk := Finset.univ) (Finset.subset_univ _)) $$ Ho; iintro Ho
  iapply le_wp_ret
  iapply (wp_load 𝒱₀ (c : Thread nD τ) none Set.univ (m := oM) (Finset.subset_univ _)) $$ Ho; iintro Ho
  iapply (wp_store 𝒱₀ (c : Thread nD τ) none Set.univ (m := oM) (r := rBot) (Mk := Finset.univ) (Finset.subset_univ _)) $$ Ho; iintro Ho
  iapply le_wp_ret
  rw [stored]
  -- the sends waited for, the cells closed
  ihave HW := (Entails.of_eq (windows_end kv c)) $$ HW
  ihave HO := (Entails.of_eq (congrArg (owing c) (due_end c (by decide : 24 ≤ 2 * (4 + 12))))) $$ HO
  iapply (wp_fupd (E := Set.univ) frame (wpE (defs₀ (F := F)) 𝒱₀ (c : Thread nD τ) none) (drains (F := F) 0 24) Q)
  iapply (runs_drains kv K c _ 24 0 (by decide))
  isplitr; · iexact HR
  isplitl [HW]; · iexact HW
  isplitl [HO]; · iexact HO
  iintro ⟨HW, HO⟩
  ihave #HI := (rec_inv kv K (c, .inl ())) $$ HR
  imod (finish kv K c) $$ [HW] with HE
  · isplitr; · iexact HR
    iexact HW
  imod (Rounds.cell_close ER (sched kv) (g := barCell c) (Set.mem_univ (K (c, .inl ()))) (fun h => h) (R := 1) (fun r hr => duties_later kv _ r hr)) $$ [HatB] with HzB
  · isplitr; · iexact HI
    iexact HatB
  imodintro
  iapply HQ
  unfold bodyPost Φ₁ ins
  isplitl [HE HzB]
  · isplitl [HE] <;> iassumption
  isplitl [HO]; · iexact HO
  isplitl [Hq Hk Hv]
  · isplitl [Hq]; · iexact Hq
    isplitl [Hk] <;> iassumption
  iexact Ho

end Cert.Ring

end
-- ==== Proof.Launch.lean ====
/-
# The launch

Four devices run the kernel together: what each holds when its windows are staged and what it leaves; the schedule's
cells and duties dealt out; and the run of the whole program, ending with every device's result stored.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at launch: any contents, every counter zero. -/
def start₀ : MemSt nD τ sig (Elt F) := ⟨m, fun _ => 0, ρ⟩

/-- A device's queries, its keys and its values. -/
def qOf (c : Dev nD) : Vec F S2048x256 .bf16 := (win0_0.blk (0 : Fin 1)).view.read (Elt F) (m ((c : Thread nD τ).loc main_arg0))
def kvOf : Fin 2 → Dev nD → Vec F S2048x256 .bf16
  | 0 => fun c => (win0_1.blk (0 : Fin 1)).view.read (Elt F) (m ((c : Thread nD τ).loc main_arg1))
  | 1 => fun c => (win0_2.blk (0 : Fin 1)).view.read (Elt F) (m ((c : Thread nD τ).loc main_arg2))

/-! ## What a device holds around its one grid point -/

theorem one_point : cfg0.N = 1 := by decide
def pt : Fin cfg0.N := ⟨0, by rw [one_point]; decide⟩
theorem all_pt (t : Fin cfg0.N) : t = pt := by
  obtain ⟨t, ht⟩ := t; have := one_point; exact Fin.ext (by simp only [pt]; omega)

/-- Before the run: the protocol's share, the credits, the levels; -/
def begin (c : Dev nD) : sProp 𝕄 :=
  iprop((∃ K, ghost (kvOf m) K c) ∗ (cred (tallyAt (barCell c) () 2) ∗ (bigSep Finset.univ fun n : Fin 24 => iprop(cred (tallyAt (rCell c (n.val + 8)) () Nc))) ∗ levAts L lv))
/-- and the windows. -/
def Φ₀ (c : Dev nD) : sProp 𝕄 := iprop(begin m c ∗ bigSep Finset.univ fun n : Fin 32 => wAny c n.val)

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => qOf m c
    | ⟨1, _⟩ => kvOf m 0 c
    | ⟨2, _⟩ => kvOf m 1 c
    | ⟨3, _⟩ => resultOf (qOf m) (kvOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]
  have h1 : iprop(∃ f : Buf (Elt F) (((c : Dev nD) : Thread nD τ).loc b), ⌜f = X⌝ ∗ (((c : Thread nD τ).loc b) ↦{fullShare} f)) ⊢ (((c : Thread nD τ).loc b) ↦{fullShare} X : sProp 𝕄) := by
    iintro ⟨%f, %hf, H⟩; subst hf; iexact H
  have h2 : (((c : Thread nD τ).loc b) ↦{fullShare} X : sProp 𝕄) ⊢ iprop(∃ f : Buf (Elt F) (((c : Dev nD) : Thread nD τ).loc b), ⌜f = X⌝ ∗ (((c : Thread nD τ).loc b) ↦{fullShare} f)) := by
    iintro H; iexists X; isplitr; · (ipureintro; rfl)
    iexact H
  exact BI.Entails.antisymm h1 h2

theorem four_windows (Φ : Fin cfg0.W → sProp 𝕄) : bigSep Finset.univ Φ = iprop(Φ (0 : Fin 4) ∗ Φ (1 : Fin 4) ∗ Φ (2 : Fin 4) ∗ Φ (3 : Fin 4)) := bigSep_W0 Φ

/-- What staging leaves in the operands' buffers. -/
theorem staged0 (c : Dev nD) (d) : (dats m ρ 0 c).before (0 : Fin 4) pt d = qOf m c := by unfold Dat.before; rw [if_pos (fetch0_0 pt)]; rfl
theorem staged1 (c : Dev nD) (d) : (dats m ρ 0 c).before (1 : Fin 4) pt d = kvOf m 0 c := by unfold Dat.before; rw [if_pos (fetch0_1 pt)]; rfl
theorem staged2 (c : Dev nD) (d) : (dats m ρ 0 c).before (2 : Fin 4) pt d = kvOf m 1 c := by unfold Dat.before; rw [if_pos (fetch0_2 pt)]; rfl

set_option maxRecDepth 4000 in
def atStart (c : Dev nD) : sProp 𝕄 :=
  iprop(Φ₀ m c ∗ (dats m ρ 0 c).owesAt () pt.castSucc
    ∗ (∃ d, stg c cc0_stg0_0 ((dats m ρ 0 c).before (0 : Fin 4) pt d)) ∗ (∃ d, stg c cc0_stg1_0 ((dats m ρ 0 c).before (1 : Fin 4) pt d))
    ∗ (∃ d, stg c cc0_stg2_0 ((dats m ρ 0 c).before (2 : Fin 4) pt d)) ∗ (∃ d, stg c cc0_stg3_0 ((dats m ρ 0 c).before (3 : Fin 4) pt d)))
def atEnd (c : Dev nD) : sProp 𝕄 :=
  iprop(Φ₁ c ∗ (dats m ρ 0 c).owesAt () pt.succ ∗ stg c cc0_stg0_0 (qOf m c) ∗ stg c cc0_stg1_0 (kvOf m 0 c) ∗ stg c cc0_stg2_0 (kvOf m 1 c)
    ∗ stg c cc0_stg3_0 (resultOf (qOf m) (kvOf m) c))

set_option maxRecDepth 65536 in
/-- The kernel at its one point. -/
theorem at_point (c : Dev nD) : BodyObligation (dats (F := F) m ρ 0 c) (defs₀ (F := F)) 𝒱₀ () Set.univ := fun t => by
  rw [all_pt t, four_windows, four_windows]
  simp only [owns_whole]
  show atStart m ρ c ⊢ wp frame (wpE (defs₀ (F := F)) 𝒱₀ c none) Set.univ (bodyAt0 (F := F) pt) (fun _ => atEnd m ρ c)
  rw [body_eq]
  unfold atStart Φ₀ begin Dat.owesAt Pipeline.owesWithin
  rw [show (dats m ρ 0 c).owed pt.castSucc = O₀ c from rfl]
  iintro ⟨⟨⟨⟨%K, Hg⟩, Hc⟩, HW⟩, ⟨%W, %hW, HO⟩, ⟨%d0, Hq⟩, ⟨%d1, Hk⟩, ⟨%d2, Hv⟩, ⟨%d3, Hr⟩⟩
  rw [staged0, staged1, staged2]
  iapply (sound_body (qOf m) (kvOf m) K c fun _ => atEnd m ρ c)
  isplitr []
  · unfold bodyPre ins owing
    isplitl [Hg]; · iexact Hg
    isplitl [Hc]; · iexact Hc
    isplitl [HW]; · iexact HW
    isplitl [HO]; · iexists W; iexact HO
    isplitl [Hq Hk Hv]
    · isplitl [Hq]; · iexact Hq
      isplitl [Hk] <;> iassumption
    iexists _; iexact Hr
  unfold bodyPost ins owing atEnd Dat.owesAt Pipeline.owesWithin
  rw [show (dats m ρ 0 c).owed pt.succ = 0 from rfl]
  iintro ⟨HE, ⟨%W', HO⟩, ⟨Hq, Hk, Hv⟩, Hr⟩
  isplitl [HE]; · iexact HE
  isplitl [HO]
  · iexists W'
    isplitr; · ipureintro; exact fun _ _ => Or.inl trivial
    iexact HO
  isplitl [Hq]; · iexact Hq
  isplitl [Hk]; · iexact Hk
  isplitl [Hv] <;> iassumption

/-! ## The cells and the duties, dealt out -/

/-- The kernel's own counters: a send's and a receive's for each window. -/
abbrev osem : Fin 32 ⊕ Fin 32 → SemLoc sig := fun k => csem (.inr k)

theorem csem_injective : Function.Injective csem := by
  have hS : ∀ a b : ℕ, a < 32 → b < 32 → (SemLoc.dma (sendS a) : SemLoc sig) = .dma (sendS b) → a = b := fun a b ha hb h => by
    have := congrArg winOf (congrArg Fin.val (SemLoc.dma.inj h)); rwa [winOf_send ha, winOf_send hb] at this
  have hR : ∀ a b : ℕ, a < 32 → b < 32 → (SemLoc.dma (recvS a) : SemLoc sig) = .dma (recvS b) → a = b := fun a b ha hb h => by
    have := congrArg winOf (congrArg Fin.val (SemLoc.dma.inj h)); rwa [winOf_recv ha, winOf_recv hb] at this
  have hSR : ∀ a b : ℕ, (SemLoc.dma (sendS a) : SemLoc sig) ≠ .dma (recvS b) := fun a b h => by
    have := isRecv_recv b; rw [← congrArg Fin.val (SemLoc.dma.inj h)] at this; exact not_isRecv_send a this
  rintro (⟨⟩ | a | a) (⟨⟩ | b | b) h
  · rfl
  · exact absurd h (fun h => by cases h)
  · exact absurd h (fun h => by cases h)
  · exact absurd h (fun h => by cases h)
  · exact congrArg (Sum.inr ∘ Sum.inl) (Fin.ext (hS _ _ a.isLt b.isLt h))
  · exact absurd h (hSR _ _)
  · exact absurd h (fun h => by cases h)
  · exact absurd h.symm (hSR _ _)
  · exact congrArg (Sum.inr ∘ Sum.inr) (Fin.ext (hR _ _ a.isLt b.isLt h))

theorem own_scoped : ∀ k, (osem k).isScoped .tc = true := by decide
theorem ownSems : Pipeline.OwnSemFacts cfg0.spec osem := ⟨own_scoped, fun _ _ h => Sum.inr.inj (csem_injective h), by decide⟩

theorem kcell_injective : Function.Injective (kcell : Dev nD × Ck → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  rw [h2]
def cells : Finset (GSem nD τ sig) := Finset.univ.map ⟨kcell, kcell_injective⟩

/-- A device's cells' duties: two at its barrier, one for each send, one for each landing. -/
abbrev Tk : Type := Bool ⊕ (Fin 24 ⊕ Fin 24)
/-- The cell a duty is at, and its name there. -/
abbrev tkCell : Tk → Ck × Bool
  | .inl d => (.inl (), d)
  | .inr (.inl n) => (.inr (.inl ⟨n.val, by have := n.isLt; omega⟩), false)
  | .inr (.inr n) => (.inr (.inr ⟨n.val + 8, by have := n.isLt; omega⟩), false)
theorem tkCell_injective : Function.Injective tkCell := by
  have inr_inj : ∀ {x y : Fin 32 ⊕ Fin 32} {d : Bool}, ((Sum.inr x : Ck), d) = (Sum.inr y, d) → x = y := fun h => Sum.inr.inj (congrArg Prod.fst h)
  rintro (d | a | a) (d' | b | b) h
  · exact congrArg Sum.inl (congrArg Prod.snd h)
  · cases congrArg Prod.fst h
  · cases congrArg Prod.fst h
  · cases congrArg Prod.fst h
  · exact congrArg (Sum.inr ∘ Sum.inl) (Fin.ext (by have := Sum.inl.inj (inr_inj h); exact congrArg (fun x : Fin 32 => x.val) this))
  · cases inr_inj h
  · cases congrArg Prod.fst h
  · cases inr_inj h
  · have := congrArg Fin.val (Sum.inr.inj (inr_inj h))
    exact congrArg (Sum.inr ∘ Sum.inr) (Fin.ext (Nat.add_right_cancel this))
abbrev tokOf (cj : Dev nD × Tk) : GSem nD τ sig × ℕ × Bool := (kcell (cj.1, (tkCell cj.2).1), 0, (tkCell cj.2).2)
theorem tokOf_injective : Function.Injective tokOf := by
  rintro ⟨c, j⟩ ⟨c', j'⟩ h
  have h1 := kcell_injective (congrArg Prod.fst h)
  have h2 : (tkCell j).2 = (tkCell j').2 := congrArg (fun x => x.2.2) h
  have h3 : tkCell j = tkCell j' := Prod.ext (congrArg Prod.snd h1) h2
  exact Prod.ext (show c = c' from congrArg Prod.fst h1) (tkCell_injective h3)
def duties : Finset (GSem nD τ sig × ℕ × Bool) := Finset.univ.map ⟨tokOf, tokOf_injective⟩

def u₀ : UU := (initOf (Pipeline.cells cfgs cellOf_inj) (Pipeline.launchToks cfgs cellOf_inj), initOf cells duties)

/-- The duties at device `c`'s own cells; -/
def toks (c : Dev nD) : sProp 𝕄 :=
  iprop((bigSep Finset.univ fun d : Bool => dutyTok ER (barCell c) 0 d) ∗ (bigSep Finset.univ fun n : Fin 24 => dutyTok ER (sCell c n.val) 0 false)
    ∗ bigSep Finset.univ fun n : Fin 24 => dutyTok ER (rCell c (n.val + 8)) 0 false)
/-- and the ones it pays. -/
def pays (c : Dev nD) : sProp 𝕄 :=
  iprop((dutyTok ER (barCell (prv c)) 0 true ∗ dutyTok ER (barCell (nxt c)) 0 false)
    ∗ bigSep Finset.univ fun n : Fin 24 => iprop(dutyTok ER (sCell c n.val) 0 false ∗ dutyTok ER (rCell (tgt n.val c) (n.val + 8)) 0 false))

/-- What device `c` is dealt at first, -/
def G (c : Dev nD) : sProp 𝕄 :=
  iprop((bigSep Finset.univ fun k : Ck => roundState ER (sched (kvOf m)) (kcell (c, k)) 0)
    ∗ (bigSep Finset.univ fun k : Ck => iprop(atPos ER (kcell (c, k)) 0 ∅ 0 ∗ reached ER (kcell (c, k)) 0)) ∗ toks c)
/-- and what that becomes when all cells are set up. -/
def G' (c : Dev nD) : sProp 𝕄 := iprop(∃ K, ghost (kvOf m) K c)

theorem fund_cells : BI.own (ER (initOf cells duties)) ⊢ (|==> bigSep Finset.univ (G m) : sProp 𝕄) := by
  have hX (Φ : GSem nD τ sig → sProp 𝕄) : bigSep cells Φ = bigSep Finset.univ fun c : Dev nD => bigSep Finset.univ fun k : Ck => Φ (kcell (c, k)) := by
    unfold cells; rw [bigSep_map, bigSep_univ_prod]; rfl
  have hT : bigSep duties (fun x => (dutyTok ER x.1 x.2.1 x.2.2 : sProp 𝕄)) = bigSep Finset.univ fun c : Dev nD => toks c := by
    unfold duties; rw [bigSep_map, bigSep_univ_prod]
    exact bigSep_congr fun c _ => by unfold toks; rw [bigSep_univ_sum, bigSep_univ_sum]; rfl
  iintro HX
  imod (Rounds.fund ER (sched (kvOf m)) cells duties) $$ HX with ⟨Hst, Hr, Hat, Htok⟩
  imodintro
  ihave Hst' := (Entails.of_eq (hX fun g => roundState ER (sched (kvOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's own counters at zero; -/
theorem own_eq (c : Dev nD) : (Pipeline.ownSems0 (Ix := Unit) (Name := ℕ) (U := UU) (Lvl := ℕ) (Val := Elt F) (τ := τ) osem c : sProp 𝕄)
    = iprop((bigSep Finset.univ fun n : Fin 32 => semVal (sCell c n.val) 0) ∗ bigSep Finset.univ fun n : Fin 32 => semVal (rCell c n.val) 0) := by
  unfold Pipeline.ownSems0; rw [bigSep_univ_sum]; rfl
/-- and the barrier's, which is no kernel's own. -/
theorem unscoped_eq (c : Dev nD) : (unscopedSems0 c : sProp 𝕄) = semVal (barCell c) 0 := by
  unfold unscopedSems0; rw [bigSep_eq_bigSepL_of_eq [SemLoc.reg barS] (by decide) (by decide)]; rfl

theorem counters_eq (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) := by
  rw [unscoped_eq, bigSep_univ_sum]
  unfold Pipeline.ownSems0
  rw [show (bigSep Finset.univ fun u : Unit => (semVal (kcell (c, .inl u)) 0 : sProp 𝕄)) = semVal (barCell c) 0 from show bigSep {()} _ = _ from bigSep_singleton]
  show _ ⊢ iprop(semVal (barCell c) 0 ∗ bigSep Finset.univ fun k : Fin 32 ⊕ Fin 32 => semVal (kcell (c, .inr k)) 0)
  iintro ⟨HO, HB⟩
  isplitl [HB] <;> iassumption

theorem set_up (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (kvOf m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (counters_eq (F := F) c) $$ [Hos Hus]
  · isplitl [Hos] <;> iassumption
  imod (show iprop((bigSep Finset.univ fun k : Ck => semVal (kcell (c, k)) 0) ∗ bigSep Finset.univ fun k : Ck => roundState ER (sched (kvOf m)) (kcell (c, k)) 0)
      ⊢ (|={Set.univ}=> bigSep Finset.univ fun k => iprop(∃ κ : ℕ, cellInv ER (sched (kvOf m)) κ (kcell (c, k))) : sProp 𝕄) from by
        rw [← bigSep_sep']
        exact (bigSep_mono fun k _ => (Rounds.body_intro ER (sched (kvOf m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The neighbours, around the ring. -/
def ring : Dev nD ≃ Dev nD := ⟨nxt, prv, prv_nxt, nxt_prv⟩
/-- Where send `n` goes, as a permutation of the devices. -/
def along (n : ℕ) : Dev nD ≃ Dev nD := ⟨tgt n, org n, org_tgt n, tgt_org n⟩

/-- The duties dealt to the devices that pay them. -/
theorem deal : (bigSep Finset.univ fun c : Dev nD => (toks c : sProp 𝕄)) ⊢ bigSep Finset.univ fun c : Dev nD => pays c := by
  unfold toks pays
  have eB : ∀ c : Dev nD, (bigSep Finset.univ fun d : Bool => (dutyTok ER (barCell c) 0 d : sProp 𝕄)) = iprop(dutyTok ER (barCell c) 0 true ∗ dutyTok ER (barCell c) 0 false) :=
    fun c => bigSep_univ_eq_bigSepL [true, false] (by decide) (by decide) _
  have eR : (bigSep Finset.univ fun c : Dev nD => bigSep Finset.univ fun n : Fin 24 => (dutyTok ER (rCell c (n.val + 8)) 0 false : sProp 𝕄))
      = bigSep Finset.univ fun c : Dev nD => bigSep Finset.univ fun n : Fin 24 => dutyTok ER (rCell (tgt n.val c) (n.val + 8)) 0 false := by
    rw [bigSep_univ_comm, bigSep_univ_comm (fun (c : Dev nD) (n : Fin 24) => (dutyTok ER (rCell (tgt n.val c) (n.val + 8)) 0 false : sProp 𝕄))]
    exact bigSep_congr fun n _ => bigSep_univ_equiv (along n.val) _
  simp only [eB, bigSep_sep']
  rw [eR, bigSep_univ_equiv ring.symm (fun c : Dev nD => (dutyTok ER (barCell c) 0 true : sProp 𝕄)),
    bigSep_univ_equiv ring (fun c : Dev nD => (dutyTok ER (barCell c) 0 false : sProp 𝕄))]
  iintro ⟨⟨H1, H2⟩, H3, H4⟩
  isplitl [H1 H2]
  · isplitl [H1]; · iexact H1
    iexact H2
  isplitl [H3] <;> iassumption

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's places, one by one. -/
theorem places (c : Dev nD) : (bigSep Finset.univ fun k : Ck => (atPos ER (kcell (c, k)) 0 ∅ 0 : sProp 𝕄))
    = iprop(atPos ER (barCell c) 0 ∅ 0 ∗ bigSep Finset.univ fun n : Fin 32 => iprop(posS c n.val 0 ∗ posR c n.val 0)) := by
  rw [bigSep_univ_sum, bigSep_univ_sum, bigSep_sep',
    show (bigSep Finset.univ fun u : Unit => (atPos ER (kcell (c, .inl u)) 0 ∅ 0 : sProp 𝕄)) = atPos ER (barCell c) 0 ∅ 0 from show bigSep {()} _ = _ from bigSep_singleton]
  rfl

theorem ghost_intro (K : Dev nD × Ck → ℕ) (c : Dev nD) :
    iprop(records (kvOf m) K ∗ (bigSep Finset.univ fun k : Ck => atPos ER (kcell (c, k)) 0 ∅ 0) ∗ pays c) ⊢ G' m c := by
  unfold G' ghost pays
  rw [places, lins_eq]
  iintro ⟨#HR, ⟨HB, HP⟩, ⟨HtP, HtN⟩, Ht⟩
  iexists K
  isplitr; · iexact HR
  isplitl [HB]; · iexact HB
  isplitl [HtP HtN]
  · isplitl [HtP] <;> iassumption
  isplitl [HP] <;> iassumption

theorem regroup :
    (bigSep Finset.univ fun c : Dev nD => iprop((bigSep Finset.univ fun k => iprop(∃ κ : ℕ, cellInv ER (sched (kvOf m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Ck => iprop(∃ κ : ℕ, cellInv ER (sched (kvOf m)) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (sched (kvOf m)) κ (kcell ck) : sProp 𝕄))) $$ HI
  icases HK with ⟨%K, #HI⟩
  ihave Htk := (deal (F := F)) $$ Htok
  iapply (with_persistent (R := records (kvOf m) K) fun c _ => ghost_intro m K c)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => set_up m c).trans (bigSep_fupd _ _)).trans (BI.fupd_mono (regroup m))

/-! ## The credits -/

theorem due_sum (d : Dev nD) : due d 0 = ∑ n : Fin 24, tallyAt (rCell (tgt n.val d) (n.val + 8)) () Nc := by
  unfold due
  rw [← Finset.range_eq_Ico, Finset.sum_range]

/-- What the others owe a device when all start. -/
theorem creds (c : Dev nD) :
    (Pipeline.launchCred O₀ c : sProp 𝕄) ⊢ iprop(cred (tallyAt (barCell c) () 2) ∗ bigSep Finset.univ fun n : Fin 24 => iprop(cred (tallyAt (rCell c (n.val + 8)) () Nc))) := by
  have e : (O₀ : Dev nD → CellTallies nD τ sig Unit)
      = fun d => ((∑ n ∈ (Finset.univ : Finset (Fin 24)), tallyAt (rCell (tgt n.val d) (n.val + 8)) () Nc) + tallyAt (barCell (nxt d)) () 1) + tallyAt (barCell (prv d)) () 1 := by
    funext d; unfold O₀ O₁; rw [due_sum]
  rw [e, Pipeline.launchCred_add, Pipeline.launchCred_add, Pipeline.launchCred_sum]
  iintro ⟨⟨HR, HN⟩, HP⟩
  isplitl [HN HP]
  · rw [show (2 : ℕ) = 1 + 1 from rfl, ← tallyAt_add]
    iapply (cred_add _ _).2
    isplitl [HN]
    · iapply (Pipeline.launchCred_tallyAt (.reg barS) nxt prv nxt_prv prv_nxt () 1 c); iexact HN
    · iapply (Pipeline.launchCred_tallyAt (.reg barS) prv nxt prv_nxt nxt_prv () 1 c); iexact HP
  · have h : (bigSep Finset.univ fun n : Fin 24 => (Pipeline.launchCred (fun d : Dev nD => tallyAt (rCell (tgt n.val d) (n.val + 8)) () Nc) c : sProp 𝕄))
        ⊢ bigSep Finset.univ fun n : Fin 24 => iprop(cred (tallyAt (rCell c (n.val + 8)) () Nc)) :=
      bigSep_mono fun n _ => Pipeline.launchCred_tallyAt (.dma (recvS (n.val + 8))) (tgt n.val) (org n.val) (tgt_org n.val) (org_tgt n.val) () Nc c
    iapply h; iexact HR

/-! ## In and out -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(begin m c ∗ emp) := by
  iintro ⟨-, Hlev, Hcr, -, HG⟩
  ihave Hc := (creds (F := F) c) $$ Hcr
  icases Hc with ⟨H1, HN⟩
  imodintro
  unfold begin G'
  isplitl
  · isplitl [HG]; · iexact HG
    isplitl [H1]; · iexact H1
    isplitl [HN] <;> iassumption
  · iempintro

/-- The four buffers are the windows. -/
theorem scratch_windows (c : Dev nD) : (Pipeline.scopedRest (Ix := Unit) (Name := ℕ) (U := UU) (Lvl := ℕ) (Val := Elt F) cfg0.spec c : sProp 𝕄)
    = bigSep Finset.univ fun n : Fin 32 => wAny c n.val := by
  rw [scopedRest0_eq, ← BI.Entails.antisymm (bufs_windows (F := F) c).1 (bufs_windows (F := F) c).2,
    bigSep_univ_eq_bigSepL [(0 : Fin 4), (1 : Fin 4), (2 : Fin 4), (3 : Fin 4)] (by decide) (by decide)]
  have e : ∀ b : Fin 4, (iprop(∃ f, (buf b).view.loc (c : Thread nD τ) ↦[(buf b).view.set]{fullShare} f) : sProp 𝕄)
      = iprop(∃ f, (buf b).view.loc (c : Thread nD τ) ↦{fullShare} f) := fun b => by
    rw [show (buf b).view.set = Finset.univ from match b with | 0 => View.set_whole _ | 1 => View.set_whole _ | 2 => View.set_whole _ | 3 => View.set_whole _]
  show _ = iprop((∃ f, (buf 0).view.loc (c : Thread nD τ) ↦[(buf 0).view.set]{fullShare} f) ∗ (∃ f, (buf 1).view.loc (c : Thread nD τ) ↦[(buf 1).view.set]{fullShare} f)
    ∗ (∃ f, (buf 2).view.loc (c : Thread nD τ) ↦[(buf 2).view.set]{fullShare} f) ∗ (∃ f, (buf 3).view.loc (c : Thread nD τ) ↦[(buf 3).view.set]{fullShare} f))
  rw [e 0, e 1, e 2, e 3]

theorem enter (c : Dev nD) :
    iprop(begin m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_windows]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_windows, own_eq, unscoped_eq]
  unfold Φ₁
  simp only [bigSep_sep']
  iintro ⟨⟨HS, HR, HW⟩, HB⟩
  isplitl [HB]; · iexact HB
  isplitl [HS HR]
  · isplitl [HS] <;> iassumption
  iexact HW

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalOf (c : Dev nD) (w : Fin cfg0.W) : Buf (Elt F) ((cfg0.win w).arr.view.loc (c : Thread nD τ)) := (dats m ρ 0 c).arrAt w cfg0.N

theorem share_eq (c : Dev nD) (w : Fin cfg0.W) : (dats m ρ 0 c).share w = fullShare := by unfold Dat.share; split <;> rfl

set_option maxRecDepth 8000 in
/-- Over any float values and from any memory, the program runs to its end on the four devices, leaving every operand's
    and every result's array at what is written back to it, and every counter at zero. -/
theorem run_all : θ_run defs (onTc (τ := τ) (main (F := F))) (start₀ m ρ)
    (fun r => (∀ c : Dev nD, ∀ w : Fin cfg0.W, r.2.mem ((cfg0.win w).arr.view.loc (c : Thread nD τ)) = finalOf m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSems (Pipeline.PreFacts.none _) EP defs₀ 𝒱₀ m ρ main
    (hmain := fun _ => rfl)
    (hbody := at_point m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := begin m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring

end
-- ==== Proof.Ends.lean ====
/-
# What the run leaves

The three arguments as they were and the result array at the quotient of the accumulated sums, each window being its
whole array.
-/
module

public import proofs.«01_k».proof.Proof.Launch
public import Idealize.ShloMosaic.Lib.Pipeline.Value

@[expose] public section

noncomputable section

namespace Cert.Ring

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F] [Named F]
variable (m : (ℓ : Loc nD τ sig) → Buf (Elt F) ℓ) (ρ : Dev nD → PrngReg)

/-- The first argument's window reads the whole array; -/
theorem read_q (c : Dev nD) : qOf m c = m ((c : Thread nD τ).loc main_arg0) := by
  funext i
  refine congrArg (m ((c : Thread nD τ).loc main_arg0)) (funext fun a => Fin.ext ?_)
  exact Window.rect_emb_val_of_index_zero win0_0 (0 : Fin 1) a rfl i
/-- so does the second's, -/
theorem read_k (c : Dev nD) : kvOf m 0 c = m ((c : Thread nD τ).loc main_arg1) := by
  funext i
  refine congrArg (m ((c : Thread nD τ).loc main_arg1)) (funext fun a => Fin.ext ?_)
  exact Window.rect_emb_val_of_index_zero win0_1 (0 : Fin 1) a rfl i
/-- and the third's. -/
theorem read_v (c : Dev nD) : kvOf m 1 c = m ((c : Thread nD τ).loc main_arg2) := by
  funext i
  refine congrArg (m ((c : Thread nD τ).loc main_arg2)) (funext fun a => Fin.ext ?_)
  exact Window.rect_emb_val_of_index_zero win0_2 (0 : Fin 1) a rfl i

/-- The result's window takes index `i` to index `i` of the array. -/
theorem result_emb (i : S2048x256.Idx) : (win0_3.rect (0 : Fin 1)).emb i = i :=
  funext fun a => Fin.ext (Window.rect_emb_val_of_index_zero win0_3 (0 : Fin 1) a rfl i)

/-- The result's window reads the whole array. -/
theorem read_result (c : Dev nD) (X : Vec F S2048x256 .f32) : (win0_3.blk (0 : Fin 1)).view.read (Elt F) X = X :=
  funext fun i => congrArg X (result_emb i)

/-- The result array after the run. -/
theorem final_result (c : Dev nD) : finalOf m ρ c (3 : Fin 4) = resultOf (qOf m) (kvOf m) c := by
  refine Dat.arrAt_eq_of_cover (dats m ρ 0 c) (3 : Fin 4) _ (fun t _ => ?_) (fun i => ⟨pt, flush0_3 pt, ?_⟩)
  · rw [all_pt t]
    have h : (dats m ρ 0 c).flushed (3 : Fin 4) pt = resultOf (qOf m) (kvOf m) c := by
      unfold Dat.flushed
      rw [show (dats m ρ 0 c).after (3 : Fin 4) pt = resultOf (qOf m) (kvOf m) c from by dsimp only [dats]]
      rfl
    refine h.trans ?_
    generalize resultOf (qOf m) (kvOf m) c = X
    exact (read_result c X).symm
  · show i ∈ ((View.whole main_v1).slice (win0_3.rect (0 : Fin 1))).set
    rw [View.set_slice_whole]
    refine (LoadRect.mem_set _).2 fun a => ⟨(i a).val, (i a).isLt, ?_⟩
    exact (congrArg (fun j : S2048x256.Idx => (j a).val) (result_emb i)).symm.trans (Rect.emb_apply _ _ _)

/-- The queries that the devices are given, and their keys and values. -/
def qArr (d : Dev nD) : Vec F S2048x256 .bf16 := m ((d : Thread nD τ).loc main_arg0)
def kvArr : Fin 2 → Dev nD → Vec F S2048x256 .bf16
  | 0 => fun d => m ((d : Thread nD τ).loc main_arg1)
  | 1 => fun d => m ((d : Thread nD τ).loc main_arg2)

/-- Over any float values and from any memory with zero counters, the program runs to its end on the four devices; each
    device's result array then holds the quotient of its sums, its three arguments are unchanged, and every counter is
    zero again. -/
theorem run_main : θ_run defs (onTc (τ := τ) (main (F := F))) ⟨m, fun _ => 0, ρ⟩ (fun r =>
    (∀ c : Dev nD, r.2.mem ((c : Thread nD τ).loc main_v1) = resultOf (qArr m) (kvArr m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) := by
  have eq : qOf m = qArr m := funext (read_q m)
  have ekv : kvOf m = kvArr m := funext fun j => match j with | 0 => funext (read_k m) | 1 => funext (read_v m)
  rw [← eq, ← ekv]
  exact (θ_run defs _ _).mono (fun r h => ⟨fun c => ⟨(h.1 c (3 : Fin 4)).trans (final_result m ρ c),
    (h.1 c (0 : Fin 4)).trans ((dats m ρ 0 c).arrAt_in (0 : Fin 4) rfl _),
    (h.1 c (1 : Fin 4)).trans ((dats m ρ 0 c).arrAt_in (1 : Fin 4) rfl _),
    (h.1 c (2 : Fin 4)).trans ((dats m ρ 0 c).arrAt_in (2 : Fin 4) rfl _)⟩, h.2⟩) (run_all m ρ)

end Cert.Ring

end
-- ==== Proof.Same.lean ====
/-
# The program as printed

Where floats are words, a named constant is the word that stands for it: then the program and its ideal form are one
program, and what is proved of the one holds of the other.
-/
module

public import proofs.«01_k».proof.Defs
public import proofs.«01_k».proof.Proof.Gen.Kernel
public import proofs.«01_k».proof.Proof.Ends

@[expose] public section

noncomputable section

namespace Cert.Ring

open Idealize.ShloMosaic Idealize.ShloMosaic.TcCoe Idealize.SL.Sem

/-- A named constant, as a word: the word that the program has in its place. -/
instance named_word : Named Bits := ⟨fun _ _ {φ} w => Scalar.ofBits φ w⟩

set_option maxRecDepth 65536

/-- The two bodies are one. -/
theorem bodies_same : Cert.Kernel.defs₀ (F := Bits) = Cert.KernelIdeal.defs₀ (F := Bits) := by
  refine congrArg Defs.onTc (funext fun l => ?_)
  fin_cases l
  funext a
  rfl
/-- The two tables of bodies are one, -/
theorem defs_same : Cert.Kernel.defs (F := Bits) = Cert.KernelIdeal.defs (F := Bits) :=
  congrArg (Pipeline.defs (Cert.KernelIdeal.pcfgs (F := Bits))) bodies_same
/-- and so are the two programs. -/
theorem main_same : Cert.Kernel.main (F := Bits) = Cert.KernelIdeal.main (F := Bits) := rfl

/-- The program as printed terminates with its arguments unchanged and every counter at zero. -/
theorem frame_kernel : Cert.quiescent_Kernel := fun m ρ _ => by
  rw [defs_same, main_same]
  exact (θ_run Cert.KernelIdeal.defs _ _).mono (fun _ h => ⟨fun c => (h.1 c).2, h.2⟩) (run_main (F := Bits) m ρ)

/-- The ideal program does. -/
theorem frame_ideal : Cert.quiescent_KernelIdeal := fun m ρ _ =>
  (θ_run Cert.KernelIdeal.defs _ _).mono (fun _ h => ⟨fun c => (h.1 c).2, h.2⟩) (run_main (F := Ideal) m ρ)

end Cert.Ring

end
-- ==== Proof.Frames.lean ====
/-
# The reference's frame and the named constant

The reference runs to its end with its arguments unchanged and no counter, and the one named constant is the real number
that its name stands for.
-/
module

public import proofs.«01_k».proof.Defs
public import proofs.«01_k».proof.Proof.Gen.ReferenceIdeal.Run
public import Idealize.ShloMosaic.Lib.Quiescent

@[expose] public section

noncomputable section

namespace Cert.Ring

open Idealize.ShloMosaic Idealize.SL.Sem

/-- The reference terminates, leaves its arguments unchanged and has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The scale's name stands for `1 / (16 log 2)`. -/
theorem scale_named : Cert.preserves_Kernel_KernelIdeal :=
  IdealRules.named_const.statement Cert.KernelIdeal.κ "scale" .f32 0x3DB8AA3B#32 (((16 * Real.log 2)⁻¹ : ℝ) : EReal) rfl

end Cert.Ring

end
-- ==== Proof.Softmax.lean ====
/-
# Two ways to weigh

The quotient of the sums under the weights `2 ^ (x / (16 log 2))` is the sum under the normalised weights
`exp (x / 16 - M) / ∑ exp (x / 16 - M)`, for real products `x`, any real `M` and any extended real values.
-/
module

public import Idealize.ShloMosaic.PureOps.Ideal
public import Mathlib.Data.EReal.Basic

@[expose] public section

noncomputable section

namespace Cert.Ring

open Idealize.ShloMosaic

/-- The weight of a key whose product with the query is `x`: `2 ^ (x / (16 log 2))`. -/
def weight (x : EReal) : EReal := Ideal.exp2 (x * (((16 * Real.log 2)⁻¹ : ℝ) : EReal))

/-- At a real product the weight is `exp (x / 16)`. -/
theorem weight_coe (x : ℝ) : weight (x : EReal) = ((Real.exp (x / 16) : ℝ) : EReal) := by
  have h2 : Real.log 2 ≠ 0 := (Real.log_pos (by norm_num)).ne'
  unfold weight
  rw [← EReal.coe_mul, Ideal.exp2_coe]
  refine congrArg _ ?_
  show (2 : ℝ) ^ (x * (16 * Real.log 2)⁻¹) = _
  rw [Real.rpow_def_of_pos (by norm_num)]
  refine congrArg Real.exp ?_
  field_simp

variable {ι : Type} [Fintype ι]

/-- A sum of reals, among the extended reals. -/
theorem coe_sum (f : ι → ℝ) : ∑ i, ((f i : ℝ) : EReal) = ((∑ i, f i : ℝ) : EReal) := by
  classical
  refine Finset.induction_on (motive := fun s => ∑ i ∈ s, ((f i : ℝ) : EReal) = ((∑ i ∈ s, f i : ℝ) : EReal)) _ (by simp) fun a s ha ih => ?_
  rw [Finset.sum_insert ha, Finset.sum_insert ha, ih, EReal.coe_add]

/-- A nonnegative real factor goes into a sum. -/
theorem sum_mul_coe (f : ι → EReal) {r : ℝ} (hr : 0 ≤ r) : (∑ i, f i) * (r : EReal) = ∑ i, f i * (r : EReal) := by
  classical
  refine Finset.induction_on (motive := fun s => (∑ i ∈ s, f i) * (r : EReal) = ∑ i ∈ s, f i * (r : EReal)) _ (by simp) fun a s ha ih => ?_
  rw [Finset.sum_insert ha, Finset.sum_insert ha, ← ih,
    EReal.right_distrib_of_nonneg_of_ne_top (EReal.coe_nonneg.2 hr) (EReal.coe_ne_top r)]

/-- The quotient of the weighted sums is the sum under the normalised weights. -/
theorem quotient_eq [Nonempty ι] (x : ι → ℝ) (M : ℝ) (v : ι → EReal) :
    Ideal.div (∑ j, weight (x j) * v j) (∑ j, weight (x j))
      = ∑ j, Ideal.div (Ideal.exp (((x j / 16 : ℝ) : EReal) - (M : EReal))) (∑ k, Ideal.exp (((x k / 16 : ℝ) : EReal) - (M : EReal))) * v j := by
  have hP : (0 : ℝ) < ∑ j, Real.exp (x j / 16) := Finset.sum_pos (fun j _ => Real.exp_pos _) Finset.univ_nonempty
  have hE : (0 : ℝ) < ∑ j, Real.exp (x j / 16 - M) := Finset.sum_pos (fun j _ => Real.exp_pos _) Finset.univ_nonempty
  have e : ∑ j, Real.exp (x j / 16 - M) = (∑ j, Real.exp (x j / 16)) * Real.exp (-M) := by
    rw [Finset.sum_mul]
    exact Finset.sum_congr rfl fun j _ => by rw [sub_eq_add_neg, Real.exp_add]
  simp only [weight_coe, ← EReal.coe_sub, Ideal.exp_coe, coe_sum, Ideal.div_coe hP.ne', Ideal.div_coe hE.ne']
  rw [sum_mul_coe _ (by positivity)]
  refine Finset.sum_congr rfl fun j _ => ?_
  rw [mul_right_comm, ← EReal.coe_mul, ← EReal.coe_mul]
  refine congrArg (fun r : ℝ => (r : EReal) * v j) ?_
  rw [e, sub_eq_add_neg, Real.exp_add]
  have := (Real.exp_pos (-M)).ne'
  field_simp

/-- The greatest of finitely many reals, from `-∞` on, is a real. -/
theorem greatest_real [Nonempty ι] (f : ι → EReal) (h : ∀ i, ∃ r : ℝ, f i = r) : ∃ M : ℝ, Finset.univ.fold max ⊥ f = (M : EReal) := by
  obtain ⟨i⟩ := ‹Nonempty ι›
  have h1 : Finset.univ.fold max ⊥ f ≠ ⊤ := ((Finset.fold_max_lt _).2 ⟨bot_lt_top, fun j _ => by obtain ⟨r, hr⟩ := h j; rw [hr]; exact EReal.coe_lt_top r⟩).ne
  have h2 : Finset.univ.fold max ⊥ f ≠ ⊥ := by
    obtain ⟨r, hr⟩ := h i
    have : f i ≤ Finset.univ.fold max ⊥ f := (Finset.le_fold_max _).2 (Or.inr ⟨i, Finset.mem_univ i, le_refl _⟩)
    rw [hr] at this
    exact ((EReal.bot_lt_coe r).trans_le this).ne'
  exact ⟨_, (EReal.coe_toReal h1 h2).symm⟩

end Cert.Ring

end
-- ==== Proof.Sums.lean ====
/-
# What a device's sums hold

Over the extended reals: after its sixteen steps a device holds, for each of its queries, the sum of the weights of all
the keys that its windows held and the sum of the values under those weights; its result is their quotient.
-/
module

public import proofs.«01_k».proof.Proof.Body
public import proofs.«01_k».proof.Proof.Softmax
public import Idealize.ShloMosaic.Lib.Pointwise

@[expose] public section

noncomputable section

namespace Cert.Ring

open Cert.KernelIdeal Cert.KernelIdeal.Gen
open Idealize.ShloMosaic

/-- The kernel's scale is the number that its name stands for. -/
theorem scale_eq : (Named.named (F := Ideal) κ "scale" (φ := .f32) 0x3DB8AA3B#32) = (((16 * Real.log 2)⁻¹ : ℝ) : EReal) :=
  IdealRules.named_const.ideal_named_scalar _ _ _ _ rfl

variable (q0 q1 : FVec Ideal S1024x256 .bf16)

/-- The product of query `i` of a tile with key `r` of a window. -/
def prod (q : FVec Ideal S1024x256 .bf16) (k : Vec Ideal S512x256 .bf16) (i : Fin 1024) (r : Fin 512) : EReal :=
  ∑ e : Fin 256, q (ix2 i e) * k (ix2 r e)

/-- A step adds the window's weights, -/
theorem step1_sum (q : FVec Ideal S1024x256 .bf16) (a : FVec Ideal S1024x1 .f32 × FVec Ideal S1024x256 .f32) (k v : Vec Ideal S512x256 .bf16) (i : Fin 1024) :
    (step1 q a (shapeCast S1x512x256 k (shapeCasts_S1x512x256_S512x256).symm) (shapeCast S1x512x256 v (shapeCasts_S1x512x256_S512x256).symm)).1 (ix2 i 0)
      = a.1 (ix2 i 0) + ∑ r : Fin 512, weight (prod q k i r) := by
  unfold step1 weigh weight prod
  pointwise
  rw [scale_eq]
  rfl
/-- and the values under them. -/
theorem step1_val (q : FVec Ideal S1024x256 .bf16) (a : FVec Ideal S1024x1 .f32 × FVec Ideal S1024x256 .f32) (k v : Vec Ideal S512x256 .bf16) (i : Fin 1024) (d : Fin 256) :
    (step1 q a (shapeCast S1x512x256 k (shapeCasts_S1x512x256_S512x256).symm) (shapeCast S1x512x256 v (shapeCasts_S1x512x256_S512x256).symm)).2 (ix2 i d)
      = a.2 (ix2 i d) + ∑ r : Fin 512, weight (prod q k i r) * v (ix2 r d) := by
  unfold step1 weigh weight prod
  pointwise
  rw [scale_eq]
  rfl

variable (kv : Fin 2 → Dev nD → Vec Ideal S2048x256 .bf16) (c : Dev nD)

/-- A part of the sums to which every step `m` adds `g m` gains the sum of those. -/
theorem accs_part (p : Acc Ideal → EReal) (g : ℕ → EReal)
    (hp : ∀ a m, p (stepW q0 q1 a (held kv c (2 * m)) (held kv c (2 * m + 1))) = p a + g m) :
    ∀ n m a, p (accs kv q0 q1 c m n a) = p a + ∑ t ∈ Finset.range n, g (m + t)
  | 0, m, a => by simp [accs]
  | n + 1, m, a => by
    show p (accs kv q0 q1 c (m + 1) n _) = _
    rw [accs_part p g hp n, hp, Finset.sum_range_succ', add_assoc, add_comm (g m)]
    refine congrArg (fun x => p a + x) (congrArg (fun x => x + g m) (Finset.sum_congr rfl fun t _ => congrArg g (by omega)))

variable (qs : Dev nD → Vec Ideal S2048x256 .bf16)

/-- So a part that starts at zero ends at the sum over the sixteen steps. -/
theorem sums_part (p : Acc Ideal → EReal) (g : ℕ → EReal) (h0 : p acc₀ = 0)
    (hp : ∀ a m, p (stepW (half (qs c) 0) (half (qs c) 1) a (held kv c (2 * m)) (held kv c (2 * m + 1))) = p a + g m) :
    p (sums qs kv c) = ∑ t ∈ Finset.range 16, g t := by
  unfold sums
  rw [accs_part _ _ kv c p g hp, accs_part _ _ kv c p g hp, h0, zero_add, show (16 : ℕ) = 4 + 12 from rfl, Finset.sum_range_add]
  simp only [zero_add]

/-- The product of row `R` of device `c`'s queries with row `r` of a window. -/
def rowProd (R : Fin 2048) (k : Vec Ideal S512x256 .bf16) (r : Fin 512) : EReal := ∑ e : Fin 256, qs c (ix2 R e) * k (ix2 r e)

/-- The weights that step `t` adds for row `R`; -/
def gainW (R : Fin 2048) (t : ℕ) : EReal := ∑ r : Fin 512, weight (rowProd c qs R (held kv c (2 * t)) r)
/-- and the values. -/
def gainV (R : Fin 2048) (d : Fin 256) (t : ℕ) : EReal :=
  ∑ r : Fin 512, weight (rowProd c qs R (held kv c (2 * t)) r) * held kv c (2 * t + 1) (ix2 r d)

theorem acc₀_zero (i : Fin 1024) (d : Fin 256) : (acc₀ (F := Ideal)).1.1 (ix2 i 0) = 0 ∧ (acc₀ (F := Ideal)).1.2 (ix2 i d) = 0
    ∧ (acc₀ (F := Ideal)).2.1 (ix2 i 0) = 0 ∧ (acc₀ (F := Ideal)).2.2 (ix2 i d) = 0 := by
  unfold acc₀
  refine ⟨?_, ?_, ?_, ?_⟩ <;> exact Ideal.ofBits_zero_f32

theorem half_top (x : Vec Ideal S2048x256 .bf16) (i : Fin 1024) (e : Fin 256) (R : Fin 2048) (h : R.val = i.val) : half x 0 (ix2 i e) = x (ix2 R e) := by
  unfold half
  simp only [← ix2_eq_valueIdx]
  exact congrArg x (congrArg (fun r => ix2 r e) (Fin.ext (by rw [h]; show 0 * 1024 + i.val = _; omega)))
theorem half_bot (x : Vec Ideal S2048x256 .bf16) (i : Fin 1024) (e : Fin 256) (R : Fin 2048) (h : R.val = 1024 + i.val) : half x 1 (ix2 i e) = x (ix2 R e) := by
  unfold half
  simp only [← ix2_eq_valueIdx]
  exact congrArg x (congrArg (fun r => ix2 r e) (Fin.ext (by rw [h]; show 1 * 1024 + i.val = _; omega)))

theorem quot_apply (a : FVec Ideal S1024x1 .f32 × FVec Ideal S1024x256 .f32) (i : Fin 1024) (d : Fin 256) :
    quot a (ix2 i d) = Ideal.div (a.2 (ix2 i d)) (a.1 (ix2 i 0)) := by
  unfold quot
  pointwise

/-- Device `c`'s result at row `R` and lane `d`. -/
theorem result_apply (R : Fin 2048) (d : Fin 256) :
    resultOf qs kv c (ix2 R d) = Ideal.div (∑ t ∈ Finset.range 16, gainV kv c qs R d t) (∑ t ∈ Finset.range 16, gainW kv c qs R t) := by
  unfold resultOf stack
  by_cases h : R.val < 1024
  · refine (dif_pos h).trans ?_
    refine (quot_apply (sums qs kv c).1 (⟨R.val, h⟩ : Fin 1024) d).trans ?_
    have hz := acc₀_zero ⟨R.val, h⟩ d
    have ep : ∀ k r, prod (half (qs c) 0) k (⟨R.val, h⟩ : Fin 1024) r = rowProd c qs R k r := fun k r =>
      Finset.sum_congr rfl fun e _ => by rw [half_top (qs c) _ e R rfl]
    rw [sums_part kv c qs (fun a => a.1.2 (ix2 ⟨R.val, h⟩ d)) (gainV kv c qs R d) hz.2.1 (fun a m => by
          refine (step1_val _ _ _ _ _ _).trans ?_; simp only [ep]; rfl),
      sums_part kv c qs (fun a => a.1.1 (ix2 ⟨R.val, h⟩ 0)) (gainW kv c qs R) hz.1 (fun a m => by
          refine (step1_sum _ _ _ _ _).trans ?_; simp only [ep]; rfl)]
  · have hR : R.val - 1024 < 1024 := by have := R.isLt; omega
    refine (dif_neg h).trans ?_
    refine (quot_apply (sums qs kv c).2 (⟨R.val - 1024, hR⟩ : Fin 1024) d).trans ?_
    have hz := acc₀_zero ⟨R.val - 1024, hR⟩ d
    have ep : ∀ k r, prod (half (qs c) 1) k (⟨R.val - 1024, hR⟩ : Fin 1024) r = rowProd c qs R k r := fun k r =>
      Finset.sum_congr rfl fun e _ => by rw [half_bot (qs c) _ e R (by show R.val = 1024 + (R.val - 1024); omega)]
    rw [sums_part kv c qs (fun a => a.2.2 (ix2 ⟨R.val - 1024, hR⟩ d)) (gainV kv c qs R d) hz.2.2.2 (fun a m => by
          refine (step1_val _ _ _ _ _ _).trans ?_; simp only [ep]; rfl),
      sums_part kv c qs (fun a => a.2.1 (ix2 ⟨R.val - 1024, hR⟩ 0)) (gainW kv c qs R) hz.2.2.1 (fun a m => by
          refine (step1_sum _ _ _ _ _).trans ?_; simp only [ep]; rfl)]

end Cert.Ring

end
-- ==== Proof.Keys.lean ====
/-
# Which keys a device sees

The sixteen windows of keys that a device reads are, in some order, the sixteen parts of 512 rows of the whole array of
keys: each part comes once. So a device's sums are over all the keys.
-/
module

public import proofs.«01_k».proof.Proof.Sums
public import Idealize.ShloMosaic.Lib.Layout

@[expose] public section

noncomputable section

namespace Cert.Ring

open Cert.KernelIdeal Cert.KernelIdeal.Gen
open Idealize.ShloMosaic

/-- The whole of an array that is cut over the four devices. -/
abbrev Whole : Type := Vec Ideal ⟨2, ![8192, 256]⟩ .bf16

/-- Device `d`'s block of it. -/
def blockOf (X : Whole) (d : Dev nD) : Vec Ideal S2048x256 .bf16 := Layout.block ⟨2, ![2048, 256]⟩ ⟨2, ![8192, 256]⟩ 0 4 d X

/-- Row `R` of device `d`'s block, in the whole. -/
def rowIn (d : Dev nD) (R : Fin 2048) : Fin 8192 := ⟨d.val * 2048 + R.val, by have := R.isLt; have : d.val < 4 := d.isLt; omega⟩

theorem blockOf_apply (X : Whole) (d : Dev nD) (R : Fin 2048) (e : Fin 256) : blockOf X d (ix2 R e) = X (ix2 (rowIn d R) e) :=
  congrArg X (funext fun a => match a with | 0 => rfl | 1 => rfl)

/-- Which part of the whole array step `t` of device `c` reads. -/
def chunk (c : Dev nD) (t : Fin 16) : Fin 16 :=
  ⟨4 * (home (2 * t.val) c).val + (if 2 * t.val % 4 < 2 then 0 else 2) + 2 * t.val / 4 % 2, by
    have : (home (2 * t.val) c).val < 4 := (home (2 * t.val) c).isLt
    split <;> omega⟩

/-- No two steps read the same part. -/
theorem chunk_injective (c : Dev nD) : Function.Injective (chunk c) := by
  have h : ∀ (c : Dev nD) (t u : Fin 16), chunk c t = chunk c u → t = u := by decide
  exact fun t u => h c t u

/-- The row of the whole that row `r` of step `t`'s windows is. -/
def key (c : Dev nD) (p : Fin 16 × Fin 512) : Fin 8192 :=
  ⟨512 * (chunk c p.1).val + p.2.val, by have := (chunk c p.1).isLt; have := p.2.isLt; omega⟩

/-- Every row of the whole is read once. -/
theorem key_bijective (c : Dev nD) : Function.Bijective (key c) := by
  refine (Fintype.bijective_iff_injective_and_card _).2 ⟨fun p q h => ?_, by simp⟩
  have h' : 512 * (chunk c p.1).val + p.2.val = 512 * (chunk c q.1).val + q.2.val := congrArg Fin.val h
  have := p.2.isLt
  have := q.2.isLt
  exact Prod.ext (chunk_injective c (Fin.ext (by omega))) (Fin.ext (by omega))

/-- A sum over the steps and the rows of their windows is over the whole. -/
theorem sum_keys (c : Dev nD) (g : ℕ → EReal) (f : Fin 8192 → EReal) (h : ∀ t : Fin 16, g t = ∑ r : Fin 512, f (key c (t, r))) :
    ∑ t ∈ Finset.range 16, g t = ∑ j : Fin 8192, f j := by
  rw [Finset.sum_range]
  simp only [h]
  rw [← Fintype.sum_prod_type' (fun t r => f (key c (t, r)))]
  exact (key_bijective c).sum_comp f

/-- A window's row, in the whole. -/
theorem row_key (c : Dev nD) (t : Fin 16) (r : Fin 512) : rowIn (home (2 * t.val) c) (rowOf (2 * t.val) r) = key c (t, r) := by
  refine Fin.ext ?_
  show (home (2 * t.val) c).val * 2048 + (2 * t.val / 4 % 2 * 512 + (if 2 * t.val % 4 < 2 then 0 else 1024) + r.val)
    = 512 * (4 * (home (2 * t.val) c).val + (if 2 * t.val % 4 < 2 then 0 else 2) + 2 * t.val / 4 % 2) + r.val
  split <;> omega

/-- The values that follow some keys come from where the keys come from. -/
theorem home_values (c : Dev nD) (t : Fin 16) : home (2 * t.val + 1) c = home (2 * t.val) c := by
  revert c t; decide
theorem row_values (t : Fin 16) (r : Fin 512) : rowOf (2 * t.val + 1) r = rowOf (2 * t.val) r := by
  have h1 : (2 * t.val + 1) / 4 % 2 = 2 * t.val / 4 % 2 := by omega
  have h2 : ((2 * t.val + 1) % 4 < 2) = (2 * t.val % 4 < 2) := propext (by omega)
  exact Fin.ext (by simp only [rowOf, h1, h2])

variable (kv : Fin 2 → Dev nD → Vec Ideal S2048x256 .bf16) (qs : Dev nD → Vec Ideal S2048x256 .bf16) (Q K V : Whole)

theorem held_key (hk : kv 0 = blockOf K) (c : Dev nD) (t : Fin 16) (r : Fin 512) (e : Fin 256) :
    held kv c (2 * t.val) (ix2 r e) = K (ix2 (key c (t, r)) e) := by
  have h0 : (⟨2 * t.val % 2, Nat.mod_lt _ (by decide)⟩ : Fin 2) = 0 := Fin.ext (by show 2 * t.val % 2 = 0; omega)
  unfold held
  rw [h0, hk, ← row_key]
  exact blockOf_apply K _ _ _
theorem held_value (hv : kv 1 = blockOf V) (c : Dev nD) (t : Fin 16) (r : Fin 512) (e : Fin 256) :
    held kv c (2 * t.val + 1) (ix2 r e) = V (ix2 (key c (t, r)) e) := by
  have h0 : (⟨(2 * t.val + 1) % 2, Nat.mod_lt _ (by decide)⟩ : Fin 2) = 1 := Fin.ext (by show (2 * t.val + 1) % 2 = 1; omega)
  unfold held
  rw [h0, hv, ← row_key, home_values]
  refine (blockOf_apply V _ _ _).trans ?_
  exact congrArg (fun R => V (ix2 (rowIn (home (2 * t.val) c) R) e)) (row_values t r)

/-- The product of query `a` and key `b`. -/
def wholeProd (a b : Fin 8192) : EReal := ∑ e : Fin 256, Q (ix2 a e) * K (ix2 b e)

theorem rowProd_key (hq : qs = blockOf Q) (hk : kv 0 = blockOf K) (c : Dev nD) (R : Fin 2048) (t : Fin 16) (r : Fin 512) :
    rowProd c qs R (held kv c (2 * t.val)) r = wholeProd Q K (rowIn c R) (key c (t, r)) :=
  Finset.sum_congr rfl fun e _ => by rw [held_key kv K hk, hq, blockOf_apply]

/-- When the devices are given the blocks of three arrays, row `R` of device `c`'s result is the quotient of the sums over
    all the keys. -/
theorem result_whole (hq : qs = blockOf Q) (hk : kv 0 = blockOf K) (hv : kv 1 = blockOf V) (c : Dev nD) (R : Fin 2048) (d : Fin 256) :
    resultOf qs kv c (ix2 R d)
      = Ideal.div (∑ b : Fin 8192, weight (wholeProd Q K (rowIn c R) b) * V (ix2 b d)) (∑ b : Fin 8192, weight (wholeProd Q K (rowIn c R) b)) := by
  rw [result_apply,
    sum_keys c (gainV kv c qs R d) (fun b => weight (wholeProd Q K (rowIn c R) b) * V (ix2 b d)) fun t =>
      Finset.sum_congr rfl fun r _ => by rw [rowProd_key kv qs Q K hq hk, held_value kv V hv],
    sum_keys c (gainW kv c qs R) (fun b => weight (wholeProd Q K (rowIn c R) b)) fun t =>
      Finset.sum_congr rfl fun r _ => by rw [rowProd_key kv qs Q K hq hk]]

end Cert.Ring

end
-- ==== Proof.Reference.lean ====
/-
# What the reference computes

Over the extended reals, with finite queries and keys: each row of the result is the sum of the values under the
normalised exponentials of its products.
-/
module

public import proofs.«01_k».proof.Proof.Gen.ReferenceIdeal.Run
public import proofs.«01_k».proof.Proof.Softmax
public import Idealize.ShloMosaic.Lib.Pointwise

@[expose] public section

noncomputable section

namespace Cert.Ring.Reference

open Cert.ReferenceIdeal Cert.ReferenceIdeal.Gen
open Idealize.ShloMosaic

variable (Q K V : FVec Ideal S8192x256 .bf16)

/-- The reference's scores, -/
def scores : FVec Ideal S8192x8192 .f32 :=
  Host.divf (Host.dotGeneral dot_S8192x256_S256x8192_S8192x8192_1_0_0_1_n_n none (extf .f32 Q bitsLt_bf16_f32)
    (transpose S256x8192 [1, 0] (extf .f32 K bitsLt_bf16_f32) transposes_S8192x256_S256x8192_1_0))
    (broadcastInDim S8192x8192 ![] bcast_S_S8192x8192 (Host.sqrt (constant S_ .f32 0x43800000#32)))
/-- their greatest, row by row, -/
def greatest : FVec Ideal S8192 .f32 :=
  Host.reduce FloatOps.maximumf (scores Q K) (constant S_ .f32 0xFF800000#32) reducesTo_S8192x8192_S8192_d1 h_S_
/-- the exponentials, -/
def exps : FVec Ideal S8192x8192 .f32 :=
  Host.exp (subf (scores Q K) (broadcastInDim S8192x8192 ![0, 1] bcast_S8192x1_S8192x8192_0_1 (broadcastInDim S8192x1 ![0] bcast_S8192_S8192x1_0 (greatest Q K))))
/-- and its result. -/
def result : FVec Ideal S8192x256 .f32 :=
  Host.dotGeneral dot_S8192x8192_S8192x256_S8192x256_1_0_0_1_n_n none
    (Host.divf (exps Q K) (broadcastInDim S8192x8192 ![0, 1] bcast_S8192x1_S8192x8192_0_1 (broadcastInDim S8192x1 ![0] bcast_S8192_S8192x1_0
      (Host.reduceAdd (exps Q K) (constant S_ .f32 0x00000000#32) reducesTo_S8192x8192_S8192_d1 h_S_)))) (extf .f32 V bitsLt_bf16_f32)

/-- The product of query `a` and key `b`. -/
def prod (a b : Fin 8192) : EReal := ∑ e : Fin 256, Q (ix2 a e) * K (ix2 b e)

/-- The constant `256`. -/
theorem ofBits_256 : Ideal.ofBits .f32 0x43800000#32 = ((256 : ℝ) : EReal) := by
  simp [Ideal.ofBits, Ideal.ieee, -EReal.coe_mul]; norm_num
/-- The constant `-∞`. -/
theorem ofBits_bot : Ideal.ofBits .f32 0xFF800000#32 = ⊥ := by
  simp [Ideal.ofBits, Ideal.ieee]

/-- The root of 256 is 16. -/
theorem root_16 : Ideal.sqrt (Ideal.ofBits .f32 0x43800000#32) = ((16 : ℝ) : EReal) := by
  rw [ofBits_256, Ideal.sqrt_coe, if_neg (by norm_num)]
  exact congrArg _ (by rw [show (256 : ℝ) = 16 ^ 2 by norm_num]; exact Real.sqrt_sq (by norm_num))

/-- A score is a sixteenth of its product, -/
theorem scores_apply (a b : Fin 8192) : scores Q K (ix2 a b) = Ideal.div (prod Q K a b) ((16 : ℝ) : EReal) := by
  unfold scores prod
  pointwise
  rw [root_16]

/-- the greatest of a row is over all the keys, -/
theorem greatest_apply (a : Fin 8192) : greatest Q K (ix1 a) = Finset.univ.fold max ⊥ fun b : Fin 8192 => scores Q K (ix2 a b) := by
  unfold greatest
  generalize scores Q K = s
  pointwise
  rw [ofBits_bot]

/-- an exponential is of a score less that, -/
theorem exps_apply (a b : Fin 8192) : exps Q K (ix2 a b) = Ideal.exp (scores Q K (ix2 a b) - greatest Q K (ix1 a)) := by
  unfold exps
  generalize scores Q K = s
  generalize greatest Q K = s
  pointwise

/-- and the result is a sum over the keys. -/
theorem result_apply (a : Fin 8192) (d : Fin 256) :
    result Q K V (ix2 a d) = ∑ b : Fin 8192, Ideal.div (exps Q K (ix2 a b)) (∑ k : Fin 8192, exps Q K (ix2 a k)) * V (ix2 b d) := by
  unfold result
  generalize exps Q K = s
  pointwise

/-- Products of finite queries and keys are real. -/
theorem prod_real (hQ : ∀ i, ∃ r : ℝ, Q i = r) (hK : ∀ i, ∃ r : ℝ, K i = r) (a b : Fin 8192) : ∃ r : ℝ, prod Q K a b = r := by
  choose q hq using hQ
  choose k hk using hK
  refine ⟨∑ e : Fin 256, q (ix2 a e) * k (ix2 b e), ?_⟩
  simp only [prod, hq, hk, ← EReal.coe_mul, coe_sum]

/-- With finite queries and keys, the result is the quotient of the sums under the weights. -/
theorem result_eq (hQ : ∀ i, ∃ r : ℝ, Q i = r) (hK : ∀ i, ∃ r : ℝ, K i = r) (a : Fin 8192) (d : Fin 256) :
    result Q K V (ix2 a d) = Ideal.div (∑ b : Fin 8192, weight (prod Q K a b) * V (ix2 b d)) (∑ b : Fin 8192, weight (prod Q K a b)) := by
  choose x hx using prod_real Q K hQ hK a
  have hs : ∀ b, scores Q K (ix2 a b) = ((x b / 16 : ℝ) : EReal) := fun b => by
    rw [scores_apply, hx, Ideal.div_coe (by norm_num), ← EReal.coe_mul]
    exact congrArg _ (by ring)
  obtain ⟨M, hM⟩ := greatest_real (fun b : Fin 8192 => scores Q K (ix2 a b)) fun b => ⟨_, hs b⟩
  rw [result_apply]
  simp only [hs] at hM
  simp only [exps_apply, greatest_apply, hM, hs, hx]
  exact (quotient_eq x M fun b => V (ix2 b d)).symm

end Cert.Ring.Reference

end
-- ==== Proof.Finite.lean ====
/-
# Finite queries and keys

What the precondition says of a device's arguments: each of its queries and of its keys is a real number.
-/
module

public import proofs.«01_k».proof.Defs
public import Idealize.ShloMosaic.Lib.Pointwise

@[expose] public section

noncomputable section

namespace Cert.Ring

open Idealize.ShloMosaic

/-- The shapes of the precondition's operations. -/
instance facts_ideal : Cert.Pre_finite_scores_KernelIdeal.Facts where
  bitsLt_bf16_f32 := by decide
  bcast_S_S2048x256 := by decide
instance facts_reference : Cert.Pre_finite_scores_ReferenceIdeal.Facts where
  bitsLt_bf16_f32 := by decide
  bcast_S_S8192x256 := by decide

/-- The constant `∞`. -/
theorem ofBits_top : Ideal.ofBits .f32 0x7F800000#32 = ⊤ := by
  simp [Ideal.ofBits, Ideal.ieee]

/-- A number whose absolute value is below `∞` is real. -/
theorem real_of_abs {x : EReal} (h : max x (-x) < ⊤) : ∃ r : ℝ, x = r := by
  induction x with
  | bot => simp at h
  | top => simp at h
  | coe r => exact ⟨r, rfl⟩

/-- Under the precondition every query and every key of the device is real. -/
theorem real_of_pre (q k v : FVec Ideal ⟨2, ![2048, 256]⟩ .bf16)
    (h : Cert.Pre_finite_scores_KernelIdeal.fn (F := Ideal) q k v = fun _ => 1#1) (R : Fin 2048) (e : Fin 256) :
    (∃ r : ℝ, q (ix2 R e) = r) ∧ ∃ r : ℝ, k (ix2 R e) = r := by
  have h' := congrFun h (ix2 R e)
  unfold Cert.Pre_finite_scores_KernelIdeal.fn at h'
  pointwise at h'
  rw [ofBits_top] at h'
  have one : ∀ a b : Bool, IntOp.andi (BitVec.ofBool a) (BitVec.ofBool b) = 1#1 → a = true ∧ b = true := by decide
  have h2 := one _ _ h'
  exact ⟨real_of_abs (of_decide_eq_true h2.1), real_of_abs (of_decide_eq_true h2.2)⟩

end Cert.Ring

end
-- ==== Proof.Equation.lean ====
/-
# The kernel and the reference compute one function

On blocks of three arrays whose queries and keys are finite, the four devices' results are the blocks of what the
reference computes of the arrays.
-/
module

public import proofs.«01_k».proof.Proof.Ends
public import proofs.«01_k».proof.Proof.Keys
public import proofs.«01_k».proof.Proof.Reference
public import proofs.«01_k».proof.Proof.Finite

@[expose] public section

noncomputable section

namespace Cert.Ring

open Idealize.ShloMosaic Idealize.SL.Sem

/-- Every row of an array of 8192 rows is a row of some device's block. -/
theorem row_of_block (a : Fin 8192) : ∃ (c : Dev Cert.KernelIdeal.nD) (R : Fin 2048), rowIn c R = a :=
  ⟨⟨a.val / 2048, by have := a.isLt; show a.val / 2048 < 4; omega⟩, ⟨a.val % 2048, Nat.mod_lt _ (by decide)⟩,
    Fin.ext (by show a.val / 2048 * 2048 + a.val % 2048 = a.val; omega)⟩

/-- An array is finite if its blocks are. -/
theorem real_of_blocks (X : Whole) (h : ∀ c R e, ∃ r : ℝ, blockOf X c (ix2 R e) = r) (i : (⟨2, ![8192, 256]⟩ : Shape).Idx) : ∃ r : ℝ, X i = r := by
  obtain ⟨a, e, rfl⟩ : ∃ (a : Fin 8192) (e : Fin 256), i = ix2 a e := ⟨i 0, i 1, eq_ix2 i⟩
  obtain ⟨c, R, hR⟩ := row_of_block a
  obtain ⟨r, hr⟩ := h c R e
  exact ⟨r, by rw [← hr, blockOf_apply, hR]⟩

/-- The devices' results are the blocks of the reference's. -/
theorem results_agree (qs : Dev Cert.KernelIdeal.nD → Vec Ideal Cert.KernelIdeal.S2048x256 .bf16) (kv : Fin 2 → Dev Cert.KernelIdeal.nD → Vec Ideal Cert.KernelIdeal.S2048x256 .bf16)
    (Q K V : Whole) (hq : qs = blockOf Q) (hk : kv 0 = blockOf K) (hv : kv 1 = blockOf V)
    (hQ : ∀ i, ∃ r : ℝ, Q i = r) (hK : ∀ i, ∃ r : ℝ, K i = r) (c : Dev Cert.KernelIdeal.nD) :
    resultOf qs kv c = Layout.block ⟨2, ![2048, 256]⟩ ⟨2, ![8192, 256]⟩ 0 4 c (Reference.result Q K V) := by
  funext i
  obtain ⟨R, d, rfl⟩ : ∃ (R : Fin 2048) (d : Fin 256), i = ix2 R d := ⟨i 0, i 1, eq_ix2 i⟩
  exact (result_whole kv qs Q K V hq hk hv c R d).trans
    ((Reference.result_eq Q K V hQ hK (rowIn c R) d).symm.trans (blockOf_apply (Reference.result Q K V) c R d).symm)

/-- Over the extended reals, with finite queries and keys on every device, the devices' results are the blocks of the
    reference's result. -/
theorem algebraic : Cert.algebraic_KernelIdeal_ReferenceIdeal_pre_finite_scores_KernelIdeal := by
  intro m g m' g' hpre hm
  have hq : qArr m = blockOf (m' (((0 : Dev Cert.ReferenceIdeal.nD).tc : Thread Cert.ReferenceIdeal.nD Cert.ReferenceIdeal.τ).loc Cert.ReferenceIdeal.main_arg0)) := funext fun c => (hm c).1
  have hk : kvArr m 0 = blockOf (m' (((0 : Dev Cert.ReferenceIdeal.nD).tc : Thread Cert.ReferenceIdeal.nD Cert.ReferenceIdeal.τ).loc Cert.ReferenceIdeal.main_arg1)) := funext fun c => (hm c).2.1
  have hv : kvArr m 1 = blockOf (m' (((0 : Dev Cert.ReferenceIdeal.nD).tc : Thread Cert.ReferenceIdeal.nD Cert.ReferenceIdeal.τ).loc Cert.ReferenceIdeal.main_arg2)) := funext fun c => (hm c).2.2
  have fin := fun c R e => real_of_pre _ _ _ (hpre c) R e
  have hQ := real_of_blocks _ fun c R e => by rw [← hq]; exact (fin c R e).1
  have hK := real_of_blocks _ fun c R e => by rw [← hk]; exact (fin c R e).2
  refine ⟨Reference.result _ _ _, (θ_run Cert.KernelIdeal.defs _ _).mono (fun r h c => ⟨(h.1 c).1.trans ?_, (h.1 c).2⟩) (run_main (F := Ideal) m g),
    (θ_run Cert.ReferenceIdeal.defs _ _).mono (fun r h => ⟨(h 0).1, (h 0).2⟩) (Cert.ReferenceIdeal.Value.run (F := Ideal) m' g')⟩
  exact results_agree (qArr m) (kvArr m) _ _ _ hq hk hv hQ hK c

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ring.facts_ideal, Cert.Ring.facts_reference,
  Cert.Ring.frame_kernel, Cert.Ring.frame_ideal, fun m g _ => Cert.Ring.frame_ideal m g trivial,
  Cert.Ring.frame_reference, fun m g _ => Cert.Ring.frame_reference m g trivial,
  Cert.Ring.scale_named, Cert.Ring.algebraic⟩

end Cert.Proof

end
